-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_v511) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x128 : Shape := ⟨3, ![16, 1024, 128]⟩
abbrev S1 : Shape := ⟨1, ![1]⟩
abbrev S_ : Shape := ⟨0, ![]⟩
abbrev S16x1024 : Shape := ⟨2, ![16, 1024]⟩
abbrev S16x1x1024 : Shape := ⟨3, ![16, 1, 1024]⟩
abbrev S16x1x128 : Shape := ⟨3, ![16, 1, 128]⟩
abbrev S16x2x128 : Shape := ⟨3, ![16, 2, 128]⟩
abbrev S16x2 : Shape := ⟨2, ![16, 2]⟩
abbrev S16x1 : Shape := ⟨2, ![16, 1]⟩
abbrev S16x125 : Shape := ⟨2, ![16, 125]⟩
abbrev S16x128 : Shape := ⟨2, ![16, 128]⟩
abbrev S1x1x1024 : Shape := ⟨3, ![1, 1, 1024]⟩
abbrev S1x1x128 : Shape := ⟨3, ![1, 1, 128]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩
abbrev S1x1x2 : Shape := ⟨3, ![1, 1, 2]⟩
abbrev S1x2 : Shape := ⟨2, ![1, 2]⟩
abbrev S1x1x1 : Shape := ⟨3, ![1, 1, 1]⟩
abbrev S1x1 : Shape := ⟨2, ![1, 1]⟩
abbrev S1x128 : Shape := ⟨2, ![1, 128]⟩
abbrev S16x1024x1024 : Shape := ⟨3, ![16, 1024, 1024]⟩
abbrev S1x1x256 : Shape := ⟨3, ![1, 1, 256]⟩
abbrev S1x256x1024 : Shape := ⟨3, ![1, 256, 1024]⟩
abbrev S1x256 : Shape := ⟨2, ![1, 256]⟩
abbrev S256x1 : Shape := ⟨2, ![256, 1]⟩
abbrev S256x1024 : Shape := ⟨2, ![256, 1024]⟩

abbrev nBuf : Space → Nat
  | .hbm => 33
  | .vmem => 22
  | .smem => 0
  | _ => 0

abbrev bufTy : (tb : Table) → Fin (tcTables nBuf tb) → BufTy
  | .hbm, ⟨0, _⟩ => ⟨S16x1024x128, .f32⟩
  | .hbm, ⟨1, _⟩ => ⟨S16x1024x128, .f32⟩
  | .hbm, ⟨2, _⟩ => ⟨S1, .f32⟩
  | .hbm, ⟨3, _⟩ => ⟨S_, .f32⟩
  | .hbm, ⟨4, _⟩ => ⟨S16x1024x128, .f32⟩
  | .hbm, ⟨5, _⟩ => ⟨S16x1024x128, .f32⟩
  | .hbm, ⟨6, _⟩ => ⟨S16x1024x128, .f32⟩
  | .hbm, ⟨7, _⟩ => ⟨S_, .f32⟩
  | .hbm, ⟨8, _⟩ => ⟨S16x1024x128, .f32⟩
  | .hbm, ⟨9, _⟩ => ⟨S16x1024x128, .f32⟩
  | .hbm, ⟨10, _⟩ => ⟨S_, .f32⟩
  | .hbm, ⟨11, _⟩ => ⟨S16x1024x128, .f32⟩
  | .hbm, ⟨12, _⟩ => ⟨S16x1024x128, .f32⟩
  | .hbm, ⟨13, _⟩ => ⟨S16x1024x128, .f32⟩
  | .hbm, ⟨14, _⟩ => ⟨S_, .f32⟩
  | .hbm, ⟨15, _⟩ => ⟨S16x1024, .f32⟩
  | .hbm, ⟨16, _⟩ => ⟨S16x1x1024, .f32⟩
  | .hbm, ⟨17, _⟩ => ⟨S16x1x128, .f32⟩
  | .hbm, ⟨18, _⟩ => ⟨S16x2x128, .f32⟩
  | .hbm, ⟨19, _⟩ => ⟨S16x2x128, .f32⟩
  | .hbm, ⟨20, _⟩ => ⟨S16x2x128, .f32⟩
  | .hbm, ⟨21, _⟩ => ⟨S16x2x128, .f32⟩
  | .hbm, ⟨22, _⟩ => ⟨S_, .f32⟩
  | .hbm, ⟨23, _⟩ => ⟨S16x2, .f32⟩
  | .hbm, ⟨24, _⟩ => ⟨S16x1, .f32⟩
  | .hbm, ⟨25, _⟩ => ⟨S_, .f32⟩
  | .hbm, ⟨26, _⟩ => ⟨S16x125, .f32⟩
  | .hbm, ⟨27, _⟩ => ⟨S16x128, .f32⟩
  | .hbm, ⟨28, _⟩ => ⟨S16x1x128, .f32⟩
  | .hbm, ⟨29, _⟩ => ⟨S16x1x1024, .i32⟩
  | .hbm, ⟨30, _⟩ => ⟨S16x1x128, .f32⟩
  | .hbm, ⟨31, _⟩ => ⟨S16x1024x1024, .f32⟩
  | .hbm, ⟨32, _⟩ => ⟨S16x1024x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x128, .f32⟩
  | .local _ .vmem, ⟨3, _⟩ => ⟨S1x1x128, .f32⟩
  | .local _ .vmem, ⟨4, _⟩ => ⟨S1x1x1024, .i32⟩
  | .local _ .vmem, ⟨5, _⟩ => ⟨S1x1x1024, .i32⟩
  | .local _ .vmem, ⟨6, _⟩ => ⟨S1x1x128, .f32⟩
  | .local _ .vmem, ⟨7, _⟩ => ⟨S1x1x128, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .i32⟩
  | .local _ .vmem, ⟨11, _⟩ => ⟨S1x1x256, .i32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .i32⟩
  | .local _ .vmem, ⟨15, _⟩ => ⟨S1x1x1024, .i32⟩
  | .local _ .vmem, ⟨16, _⟩ => ⟨S1x1x128, .f32⟩
  | .local _ .vmem, ⟨17, _⟩ => ⟨S1x1x128, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S16x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v21_0 : Ref sig .tc := ⟨.hbm, 31, rfl⟩
abbrev main_v21_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![16, 4, 1], ![false, false, false]⟩

def k1_cond1 (i : grid1.Coords) : BitVec 1 :=
  let arg1 : BitVec 32 := BitVec.ofNat 32 (i 1).val
  let c0_i32_82 : BitVec 32 := 0#32
  let v293 : BitVec 1 := Scalar.cmpi .eq arg1 c0_i32_82
  let arg2 : BitVec 32 := BitVec.ofNat 32 (i 2).val
  let c0_i32_83 : BitVec 32 := 0#32
  let v294 : BitVec 1 := Scalar.cmpi .eq arg2 c0_i32_83
  let v295 : BitVec 1 := Scalar.andi v293 v294
  let v296 : BitVec 32 := Scalar.extui v295
  let c0_i32_84 : BitVec 32 := 0#32
  let v297 : BitVec 1 := Scalar.cmpi .ne v296 c0_i32_84
  v297

def k1_cond2 (i : grid1.Coords) : BitVec 1 :=
  let arg1 : BitVec 32 := BitVec.ofNat 32 (i 1).val
  let c0_i32_82 : BitVec 32 := 0#32
  let v293 : BitVec 1 := Scalar.cmpi .eq arg1 c0_i32_82
  let arg2 : BitVec 32 := BitVec.ofNat 32 (i 2).val
  let c0_i32_83 : BitVec 32 := 0#32
  let v294 : BitVec 1 := Scalar.cmpi .eq arg2 c0_i32_83
  let v295 : BitVec 1 := Scalar.andi v293 v294
  let v_true : BitVec 1 := 1#1
  let v298 : BitVec 1 := Scalar.xori v295 v_true
  let v299 : BitVec 32 := Scalar.extui v298
  let c0_i32_85 : BitVec 32 := 0#32
  let v300 : BitVec 1 := Scalar.cmpi .ne v299 c0_i32_85
  v300

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x1x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== ReferenceIdeal.lean ====
abbrev S16x1024x128 : Shape := ⟨3, ![16, 1024, 128]⟩
abbrev S1 : Shape := ⟨1, ![1]⟩
abbrev S_ : Shape := ⟨0, ![]⟩
abbrev S16x1024 : Shape := ⟨2, ![16, 1024]⟩
abbrev S16x1024x1 : Shape := ⟨3, ![16, 1024, 1]⟩
abbrev S1024x1024 : Shape := ⟨2, ![1024, 1024]⟩
abbrev S1024 : Shape := ⟨1, ![1024]⟩
abbrev S1024x1 : Shape := ⟨2, ![1024, 1]⟩
abbrev S16x523776 : Shape := ⟨2, ![16, 523776]⟩
abbrev S1024x1024x1 : Shape := ⟨3, ![1024, 1024, 1]⟩
abbrev S16x1024x1024 : Shape := ⟨3, ![16, 1024, 1024]⟩
abbrev S16x1x1024 : Shape := ⟨3, ![16, 1, 1024]⟩
abbrev S1x1x1 : Shape := ⟨3, ![1, 1, 1]⟩
abbrev S16x1024x1024x1 : Shape := ⟨4, ![16, 1024, 1024, 1]⟩
abbrev S16x1x128 : Shape := ⟨3, ![16, 1, 128]⟩
abbrev S16x2x128 : Shape := ⟨3, ![16, 2, 128]⟩
abbrev S16x2 : Shape := ⟨2, ![16, 2]⟩
abbrev S1x1 : Shape := ⟨2, ![1, 1]⟩
abbrev S16x1x2 : Shape := ⟨3, ![16, 1, 2]⟩

abbrev nBuf : Space → Nat
  | .hbm => 709
  | .vmem => 0
  | .smem => 0
  | _ => 0

abbrev hbmTy0_0 (i : Nat) : BufTy := match i % 128 with
  | 0 => ⟨S16x1024x128, .f32⟩
  | 1 => ⟨S16x1024x128, .f32⟩
  | 2 => ⟨S1, .f32⟩
  | 3 => ⟨S_, .f32⟩
  | 4 => ⟨S16x1024x128, .f32⟩
  | 5 => ⟨S16x1024x128, .f32⟩
  | 6 => ⟨S16x1024x128, .f32⟩
  | 7 => ⟨S_, .f32⟩
  | 8 => ⟨S16x1024x128, .f32⟩
  | 9 => ⟨S16x1024x128, .f32⟩
  | 10 => ⟨S_, .f32⟩
  | 11 => ⟨S16x1024x128, .f32⟩
  | 12 => ⟨S16x1024x128, .f32⟩
  | 13 => ⟨S16x1024x128, .f32⟩
  | 14 => ⟨S_, .f32⟩
  | 15 => ⟨S16x1024, .f32⟩
  | 16 => ⟨S16x1024, .i32⟩
  | 17 => ⟨S16x1024, .f32⟩
  | 18 => ⟨S16x1024, .i32⟩
  | 19 => ⟨S_, .i32⟩
  | 20 => ⟨S16x1024, .i32⟩
  | 21 => ⟨S16x1024, .i1⟩
  | 22 => ⟨S_, .i32⟩
  | 23 => ⟨S16x1024, .i32⟩
  | 24 => ⟨S16x1024, .i32⟩
  | 25 => ⟨S16x1024, .i32⟩
  | 26 => ⟨S16x1024x1, .i32⟩
  | 27 => ⟨S16x1024, .f32⟩
  | 28 => ⟨S1024x1024, .i32⟩
  | 29 => ⟨S1024x1024, .i32⟩
  | 30 => ⟨S1024, .i32⟩
  | 31 => ⟨S_, .i32⟩
  | 32 => ⟨S1024, .i32⟩
  | 33 => ⟨S1024, .i32⟩
  | 34 => ⟨S_, .i32⟩
  | 35 => ⟨S_, .i32⟩
  | 36 => ⟨S1024, .i32⟩
  | 37 => ⟨S1024, .i32⟩
  | 38 => ⟨S1024x1024, .i1⟩
  | 39 => ⟨S1024x1, .i32⟩
  | 40 => ⟨S1024x1024, .i32⟩
  | 41 => ⟨S_, .i32⟩
  | 42 => ⟨S1024x1024, .i32⟩
  | 43 => ⟨S1024x1024, .i32⟩
  | 44 => ⟨S1024x1024, .i32⟩
  | 45 => ⟨S1024x1024, .i32⟩
  | 46 => ⟨S_, .i32⟩
  | 47 => ⟨S_, .i32⟩
  | 48 => ⟨S1024x1024, .i32⟩
  | 49 => ⟨S1024x1024, .i32⟩
  | 50 => ⟨S16x523776, .i32⟩
  | 51 => ⟨S_, .i32⟩
  | 52 => ⟨S16x523776, .i32⟩
  | 53 => ⟨S16x523776, .i32⟩
  | 54 => ⟨S16x523776, .i32⟩
  | 55 => ⟨S16x523776, .i32⟩
  | 56 => ⟨S_, .i32⟩
  | 57 => ⟨S16x523776, .i32⟩
  | 58 => ⟨S_, .i32⟩
  | 59 => ⟨S16x523776, .i32⟩
  | 60 => ⟨S16x523776, .i32⟩
  | 61 => ⟨S_, .i32⟩
  | 62 => ⟨S16x523776, .i32⟩
  | 63 => ⟨S16x523776, .i32⟩
  | 64 => ⟨S16x523776, .i32⟩
  | 65 => ⟨S_, .i32⟩
  | 66 => ⟨S16x523776, .i32⟩
  | 67 => ⟨S16x523776, .i32⟩
  | 68 => ⟨S_, .i32⟩
  | 69 => ⟨S16x523776, .i32⟩
  | 70 => ⟨S16x523776, .i32⟩
  | 71 => ⟨S16x523776, .i32⟩
  | 72 => ⟨S16x523776, .i32⟩
  | 73 => ⟨S16x523776, .i32⟩
  | 74 => ⟨S_, .i32⟩
  | 75 => ⟨S16x523776, .i32⟩
  | 76 => ⟨S16x523776, .i32⟩
  | 77 => ⟨S_, .i32⟩
  | 78 => ⟨S16x523776, .i32⟩
  | 79 => ⟨S16x523776, .i32⟩
  | 80 => ⟨S16x523776, .i32⟩
  | 81 => ⟨S16x523776, .i32⟩
  | 82 => ⟨S16x523776, .i32⟩
  | 83 => ⟨S_, .i32⟩
  | 84 => ⟨S16x523776, .i32⟩
  | 85 => ⟨S16x523776, .i32⟩
  | 86 => ⟨S_, .i32⟩
  | 87 => ⟨S16x523776, .i32⟩
  | 88 => ⟨S16x523776, .i32⟩
  | 89 => ⟨S16x523776, .i32⟩
  | 90 => ⟨S16x523776, .i32⟩
  | 91 => ⟨S16x523776, .i32⟩
  | 92 => ⟨S_, .i32⟩
  | 93 => ⟨S16x523776, .i32⟩
  | 94 => ⟨S16x523776, .i32⟩
  | 95 => ⟨S_, .i32⟩
  | 96 => ⟨S16x523776, .i32⟩
  | 97 => ⟨S16x523776, .i32⟩
  | 98 => ⟨S16x523776, .i32⟩
  | 99 => ⟨S16x523776, .i32⟩
  | 100 => ⟨S_, .i32⟩
  | 101 => ⟨S16x523776, .i32⟩
  | 102 => ⟨S16x523776, .i32⟩
  | 103 => ⟨S_, .i32⟩
  | 104 => ⟨S16x523776, .i32⟩
  | 105 => ⟨S16x523776, .i32⟩
  | 106 => ⟨S_, .i32⟩
  | 107 => ⟨S16x523776, .i32⟩
  | 108 => ⟨S16x523776, .i32⟩
  | 109 => ⟨S16x523776, .i32⟩
  | 110 => ⟨S_, .i32⟩
  | 111 => ⟨S16x523776, .i32⟩
  | 112 => ⟨S16x523776, .i32⟩
  | 113 => ⟨S_, .i32⟩
  | 114 => ⟨S16x523776, .i32⟩
  | 115 => ⟨S16x523776, .i32⟩
  | 116 => ⟨S16x523776, .i32⟩
  | 117 => ⟨S16x523776, .i32⟩
  | 118 => ⟨S16x523776, .i32⟩
  | 119 => ⟨S_, .i32⟩
  | 120 => ⟨S16x523776, .i32⟩
  | 121 => ⟨S16x523776, .i32⟩
  | 122 => ⟨S_, .i32⟩
  | 123 => ⟨S16x523776, .i32⟩
  | 124 => ⟨S16x523776, .i32⟩
  | 125 => ⟨S16x523776, .i32⟩
  | 126 => ⟨S16x523776, .i32⟩
  | 127 => ⟨S16x523776, .i32⟩
  | _ => ⟨S16x1024x128, .f32⟩

abbrev hbmTy0_1 (i : Nat) : BufTy := match i % 128 with
  | 0 => ⟨S_, .i32⟩
  | 1 => ⟨S16x523776, .i32⟩
  | 2 => ⟨S16x523776, .i32⟩
  | 3 => ⟨S_, .i32⟩
  | 4 => ⟨S16x523776, .i32⟩
  | 5 => ⟨S16x523776, .i32⟩
  | 6 => ⟨S16x523776, .i32⟩
  | 7 => ⟨S16x523776, .i32⟩
  | 8 => ⟨S16x523776, .i32⟩
  | 9 => ⟨S_, .i32⟩
  | 10 => ⟨S16x523776, .i32⟩
  | 11 => ⟨S16x523776, .i32⟩
  | 12 => ⟨S_, .i32⟩
  | 13 => ⟨S16x523776, .i32⟩
  | 14 => ⟨S16x523776, .i32⟩
  | 15 => ⟨S16x523776, .i32⟩
  | 16 => ⟨S16x523776, .i32⟩
  | 17 => ⟨S_, .i32⟩
  | 18 => ⟨S16x523776, .i32⟩
  | 19 => ⟨S16x523776, .i32⟩
  | 20 => ⟨S_, .i32⟩
  | 21 => ⟨S16x523776, .i32⟩
  | 22 => ⟨S16x523776, .i32⟩
  | 23 => ⟨S_, .i32⟩
  | 24 => ⟨S16x523776, .i32⟩
  | 25 => ⟨S16x523776, .i32⟩
  | 26 => ⟨S16x523776, .i32⟩
  | 27 => ⟨S_, .i32⟩
  | 28 => ⟨S16x523776, .i32⟩
  | 29 => ⟨S16x523776, .i32⟩
  | 30 => ⟨S_, .i32⟩
  | 31 => ⟨S16x523776, .i32⟩
  | 32 => ⟨S16x523776, .i32⟩
  | 33 => ⟨S16x523776, .i32⟩
  | 34 => ⟨S16x523776, .i32⟩
  | 35 => ⟨S16x523776, .i32⟩
  | 36 => ⟨S_, .i32⟩
  | 37 => ⟨S16x523776, .i32⟩
  | 38 => ⟨S16x523776, .i32⟩
  | 39 => ⟨S_, .i32⟩
  | 40 => ⟨S16x523776, .i32⟩
  | 41 => ⟨S16x523776, .i32⟩
  | 42 => ⟨S16x523776, .i32⟩
  | 43 => ⟨S16x523776, .i32⟩
  | 44 => ⟨S16x523776, .i32⟩
  | 45 => ⟨S_, .i32⟩
  | 46 => ⟨S16x523776, .i32⟩
  | 47 => ⟨S16x523776, .i32⟩
  | 48 => ⟨S_, .i32⟩
  | 49 => ⟨S16x523776, .i32⟩
  | 50 => ⟨S16x523776, .i32⟩
  | 51 => ⟨S16x523776, .i32⟩
  | 52 => ⟨S16x523776, .i32⟩
  | 53 => ⟨S16x523776, .i32⟩
  | 54 => ⟨S_, .i32⟩
  | 55 => ⟨S16x523776, .i32⟩
  | 56 => ⟨S16x523776, .i32⟩
  | 57 => ⟨S_, .i32⟩
  | 58 => ⟨S16x523776, .i32⟩
  | 59 => ⟨S16x523776, .i32⟩
  | 60 => ⟨S16x523776, .i32⟩
  | 61 => ⟨S16x523776, .i32⟩
  | 62 => ⟨S_, .i32⟩
  | 63 => ⟨S16x523776, .i32⟩
  | 64 => ⟨S16x523776, .i32⟩
  | 65 => ⟨S_, .i32⟩
  | 66 => ⟨S16x523776, .i32⟩
  | 67 => ⟨S16x523776, .i32⟩
  | 68 => ⟨S_, .i32⟩
  | 69 => ⟨S16x523776, .i32⟩
  | 70 => ⟨S16x523776, .i32⟩
  | 71 => ⟨S16x523776, .i32⟩
  | 72 => ⟨S_, .i32⟩
  | 73 => ⟨S16x523776, .i32⟩
  | 74 => ⟨S16x523776, .i32⟩
  | 75 => ⟨S_, .i32⟩
  | 76 => ⟨S16x523776, .i32⟩
  | 77 => ⟨S16x523776, .i32⟩
  | 78 => ⟨S16x523776, .i32⟩
  | 79 => ⟨S16x523776, .i32⟩
  | 80 => ⟨S16x523776, .i32⟩
  | 81 => ⟨S_, .i32⟩
  | 82 => ⟨S16x523776, .i32⟩
  | 83 => ⟨S16x523776, .i32⟩
  | 84 => ⟨S_, .i32⟩
  | 85 => ⟨S16x523776, .i32⟩
  | 86 => ⟨S16x523776, .i32⟩
  | 87 => ⟨S16x523776, .i32⟩
  | 88 => ⟨S16x523776, .i32⟩
  | 89 => ⟨S16x523776, .i32⟩
  | 90 => ⟨S_, .i32⟩
  | 91 => ⟨S16x523776, .i32⟩
  | 92 => ⟨S16x523776, .i32⟩
  | 93 => ⟨S_, .i32⟩
  | 94 => ⟨S16x523776, .i32⟩
  | 95 => ⟨S16x523776, .i32⟩
  | 96 => ⟨S16x523776, .i32⟩
  | 97 => ⟨S16x523776, .i32⟩
  | 98 => ⟨S16x523776, .i32⟩
  | 99 => ⟨S_, .i32⟩
  | 100 => ⟨S16x523776, .i32⟩
  | 101 => ⟨S16x523776, .i32⟩
  | 102 => ⟨S_, .i32⟩
  | 103 => ⟨S16x523776, .i32⟩
  | 104 => ⟨S16x523776, .i32⟩
  | 105 => ⟨S16x523776, .i32⟩
  | 106 => ⟨S16x523776, .i32⟩
  | 107 => ⟨S_, .i32⟩
  | 108 => ⟨S16x523776, .i32⟩
  | 109 => ⟨S16x523776, .i32⟩
  | 110 => ⟨S_, .i32⟩
  | 111 => ⟨S16x523776, .i32⟩
  | 112 => ⟨S16x523776, .i32⟩
  | 113 => ⟨S_, .i32⟩
  | 114 => ⟨S16x523776, .i32⟩
  | 115 => ⟨S16x523776, .i32⟩
  | 116 => ⟨S16x523776, .i32⟩
  | 117 => ⟨S_, .i32⟩
  | 118 => ⟨S16x523776, .i32⟩
  | 119 => ⟨S16x523776, .i32⟩
  | 120 => ⟨S_, .i32⟩
  | 121 => ⟨S16x523776, .i32⟩
  | 122 => ⟨S16x523776, .i32⟩
  | 123 => ⟨S16x523776, .i32⟩
  | 124 => ⟨S16x523776, .i32⟩
  | 125 => ⟨S16x523776, .i32⟩
  | 126 => ⟨S_, .i32⟩
  | 127 => ⟨S16x523776, .i32⟩
  | _ => ⟨S16x1024x128, .f32⟩

abbrev hbmTy0_2 (i : Nat) : BufTy := match i % 128 with
  | 0 => ⟨S16x523776, .i32⟩
  | 1 => ⟨S_, .i32⟩
  | 2 => ⟨S16x523776, .i32⟩
  | 3 => ⟨S16x523776, .i32⟩
  | 4 => ⟨S16x523776, .i32⟩
  | 5 => ⟨S16x523776, .i32⟩
  | 6 => ⟨S16x523776, .i32⟩
  | 7 => ⟨S_, .i32⟩
  | 8 => ⟨S16x523776, .i32⟩
  | 9 => ⟨S16x523776, .i32⟩
  | 10 => ⟨S_, .i32⟩
  | 11 => ⟨S16x523776, .i32⟩
  | 12 => ⟨S16x523776, .i32⟩
  | 13 => ⟨S16x523776, .i32⟩
  | 14 => ⟨S16x523776, .i32⟩
  | 15 => ⟨S16x523776, .i32⟩
  | 16 => ⟨S_, .i32⟩
  | 17 => ⟨S16x523776, .i32⟩
  | 18 => ⟨S16x523776, .i32⟩
  | 19 => ⟨S_, .i32⟩
  | 20 => ⟨S16x523776, .i32⟩
  | 21 => ⟨S16x523776, .i32⟩
  | 22 => ⟨S16x523776, .i32⟩
  | 23 => ⟨S16x523776, .i32⟩
  | 24 => ⟨S_, .i32⟩
  | 25 => ⟨S16x523776, .i32⟩
  | 26 => ⟨S16x523776, .i32⟩
  | 27 => ⟨S_, .i32⟩
  | 28 => ⟨S16x523776, .i32⟩
  | 29 => ⟨S16x523776, .i32⟩
  | 30 => ⟨S_, .i32⟩
  | 31 => ⟨S16x523776, .i32⟩
  | 32 => ⟨S16x523776, .i32⟩
  | 33 => ⟨S16x523776, .i32⟩
  | 34 => ⟨S_, .i32⟩
  | 35 => ⟨S16x523776, .i32⟩
  | 36 => ⟨S16x523776, .i32⟩
  | 37 => ⟨S_, .i32⟩
  | 38 => ⟨S16x523776, .i32⟩
  | 39 => ⟨S16x523776, .i32⟩
  | 40 => ⟨S16x523776, .f32⟩
  | 41 => ⟨S_, .f32⟩
  | 42 => ⟨S16x523776, .f32⟩
  | 43 => ⟨S16x523776, .f32⟩
  | 44 => ⟨S_, .f32⟩
  | 45 => ⟨S16x523776, .f32⟩
  | 46 => ⟨S16x523776, .f32⟩
  | 47 => ⟨S_, .f32⟩
  | 48 => ⟨S16x523776, .f32⟩
  | 49 => ⟨S16x523776, .f32⟩
  | 50 => ⟨S_, .f32⟩
  | 51 => ⟨S16x523776, .f32⟩
  | 52 => ⟨S16x523776, .f32⟩
  | 53 => ⟨S_, .i32⟩
  | 54 => ⟨S1024x1024, .i32⟩
  | 55 => ⟨S1024x1024, .i1⟩
  | 56 => ⟨S_, .i32⟩
  | 57 => ⟨S1024x1024, .i32⟩
  | 58 => ⟨S1024x1024, .i32⟩
  | 59 => ⟨S1024x1024, .i32⟩
  | 60 => ⟨S1024x1024x1, .i32⟩
  | 61 => ⟨S16x1024x1024, .f32⟩
  | 62 => ⟨S16x1024x1, .f32⟩
  | 63 => ⟨S16x1x1024, .f32⟩
  | 64 => ⟨S16x1024x1024, .f32⟩
  | 65 => ⟨S16x1024x1024, .f32⟩
  | 66 => ⟨S16x1024x1024, .f32⟩
  | 67 => ⟨S16x1024x1024, .f32⟩
  | 68 => ⟨S_, .f32⟩
  | 69 => ⟨S16x1024x1024, .f32⟩
  | 70 => ⟨S16x1024x1024, .f32⟩
  | 71 => ⟨S1x1x1, .f32⟩
  | 72 => ⟨S16x1024x1024, .f32⟩
  | 73 => ⟨S16x1024x1024, .f32⟩
  | 74 => ⟨S_, .f32⟩
  | 75 => ⟨S16x1024x1024, .f32⟩
  | 76 => ⟨S16x1024x1024, .f32⟩
  | 77 => ⟨S_, .f32⟩
  | 78 => ⟨S16x1024x1024, .f32⟩
  | 79 => ⟨S16x1024x1024, .f32⟩
  | 80 => ⟨S16x1024x1024, .f32⟩
  | 81 => ⟨S_, .f32⟩
  | 82 => ⟨S16x1024x1024, .f32⟩
  | 83 => ⟨S16x1024x1024, .f32⟩
  | 84 => ⟨S16x1024x1024, .f32⟩
  | 85 => ⟨S16x1024x1024, .f32⟩
  | 86 => ⟨S16x1024x1024, .f32⟩
  | 87 => ⟨S16x1024x1024, .f32⟩
  | 88 => ⟨S_, .f32⟩
  | 89 => ⟨S16x1024x1024, .f32⟩
  | 90 => ⟨S16x1024x1024, .f32⟩
  | 91 => ⟨S16x1024x1024, .f32⟩
  | 92 => ⟨S16x1024x1024, .f32⟩
  | 93 => ⟨S16x1024x1024, .f32⟩
  | 94 => ⟨S16x1024x1024, .f32⟩
  | 95 => ⟨S16x1024x1024, .f32⟩
  | 96 => ⟨S16x1024x1024, .f32⟩
  | 97 => ⟨S16x1024x1024, .f32⟩
  | 98 => ⟨S16x1024x1024, .f32⟩
  | 99 => ⟨S_, .f32⟩
  | 100 => ⟨S16x1024x1024, .f32⟩
  | 101 => ⟨S16x1024x1024, .f32⟩
  | 102 => ⟨S16x1024x1024, .f32⟩
  | 103 => ⟨S16x1024x1024, .f32⟩
  | 104 => ⟨S_, .f32⟩
  | 105 => ⟨S16x1024x1024, .f32⟩
  | 106 => ⟨S16x1024x1024, .f32⟩
  | 107 => ⟨S_, .f32⟩
  | 108 => ⟨S16x1024x1024, .f32⟩
  | 109 => ⟨S16x1024x1024, .f32⟩
  | 110 => ⟨S1024x1024, .i1⟩
  | 111 => ⟨S_, .f32⟩
  | 112 => ⟨S_, .f32⟩
  | 113 => ⟨S16x1024x1024, .i1⟩
  | 114 => ⟨S16x1024x1024, .f32⟩
  | 115 => ⟨S16x1024x1024, .f32⟩
  | 116 => ⟨S16x1024, .i32⟩
  | 117 => ⟨S16x1024, .i32⟩
  | 118 => ⟨S16x1024, .i32⟩
  | 119 => ⟨S16x1x1024, .i32⟩
  | 120 => ⟨S16x1024x1024, .i32⟩
  | 121 => ⟨S_, .i32⟩
  | 122 => ⟨S16x1024x1024, .i32⟩
  | 123 => ⟨S16x1024x1024, .i1⟩
  | 124 => ⟨S_, .i32⟩
  | 125 => ⟨S16x1024x1024, .i32⟩
  | 126 => ⟨S16x1024x1024, .i32⟩
  | 127 => ⟨S16x1024x1024, .i32⟩
  | _ => ⟨S16x1024x128, .f32⟩

abbrev hbmTy0_3 (i : Nat) : BufTy := match i % 128 with
  | 0 => ⟨S16x1024x1024x1, .i32⟩
  | 1 => ⟨S16x1024x1024, .f32⟩
  | 2 => ⟨S16x1024x1024, .f32⟩
  | 3 => ⟨S_, .i32⟩
  | 4 => ⟨S16x1024x1024, .i32⟩
  | 5 => ⟨S16x1024x1024, .i1⟩
  | 6 => ⟨S_, .i32⟩
  | 7 => ⟨S16x1024x1024, .i32⟩
  | 8 => ⟨S16x1024x1024, .i32⟩
  | 9 => ⟨S16x1024x1024, .i32⟩
  | 10 => ⟨S16x1024x1024x1, .i32⟩
  | 11 => ⟨S16x1024x1024, .f32⟩
  | 12 => ⟨S16x1024x1024, .f32⟩
  | 13 => ⟨S16x1x128, .f32⟩
  | 14 => ⟨S16x2x128, .f32⟩
  | 15 => ⟨S16x2x128, .f32⟩
  | 16 => ⟨S16x2x128, .f32⟩
  | 17 => ⟨S16x2x128, .f32⟩
  | 18 => ⟨S_, .f32⟩
  | 19 => ⟨S16x2, .f32⟩
  | 20 => ⟨S_, .f32⟩
  | 21 => ⟨S16x2, .f32⟩
  | 22 => ⟨S16x2, .f32⟩
  | 23 => ⟨S1x1, .f32⟩
  | 24 => ⟨S16x2, .f32⟩
  | 25 => ⟨S16x2, .f32⟩
  | 26 => ⟨S16x2, .i32⟩
  | 27 => ⟨S_, .i32⟩
  | 28 => ⟨S16x2, .i32⟩
  | 29 => ⟨S16x2, .i32⟩
  | 30 => ⟨S16x2, .i32⟩
  | 31 => ⟨S16x2, .i32⟩
  | 32 => ⟨S_, .i32⟩
  | 33 => ⟨S16x2, .i32⟩
  | 34 => ⟨S_, .i32⟩
  | 35 => ⟨S16x2, .i32⟩
  | 36 => ⟨S16x2, .i32⟩
  | 37 => ⟨S_, .i32⟩
  | 38 => ⟨S16x2, .i32⟩
  | 39 => ⟨S16x2, .i32⟩
  | 40 => ⟨S16x2, .i32⟩
  | 41 => ⟨S_, .i32⟩
  | 42 => ⟨S16x2, .i32⟩
  | 43 => ⟨S16x2, .i32⟩
  | 44 => ⟨S_, .i32⟩
  | 45 => ⟨S16x2, .i32⟩
  | 46 => ⟨S16x2, .i32⟩
  | 47 => ⟨S16x2, .i32⟩
  | 48 => ⟨S16x2, .i32⟩
  | 49 => ⟨S16x2, .i32⟩
  | 50 => ⟨S_, .i32⟩
  | 51 => ⟨S16x2, .i32⟩
  | 52 => ⟨S16x2, .i32⟩
  | 53 => ⟨S_, .i32⟩
  | 54 => ⟨S16x2, .i32⟩
  | 55 => ⟨S16x2, .i32⟩
  | 56 => ⟨S16x2, .i32⟩
  | 57 => ⟨S16x2, .i32⟩
  | 58 => ⟨S16x2, .i32⟩
  | 59 => ⟨S_, .i32⟩
  | 60 => ⟨S16x2, .i32⟩
  | 61 => ⟨S16x2, .i32⟩
  | 62 => ⟨S_, .i32⟩
  | 63 => ⟨S16x2, .i32⟩
  | 64 => ⟨S16x2, .i32⟩
  | 65 => ⟨S16x2, .i32⟩
  | 66 => ⟨S16x2, .i32⟩
  | 67 => ⟨S16x2, .i32⟩
  | 68 => ⟨S_, .i32⟩
  | 69 => ⟨S16x2, .i32⟩
  | 70 => ⟨S16x2, .i32⟩
  | 71 => ⟨S_, .i32⟩
  | 72 => ⟨S16x2, .i32⟩
  | 73 => ⟨S16x2, .i32⟩
  | 74 => ⟨S16x2, .i32⟩
  | 75 => ⟨S16x2, .i32⟩
  | 76 => ⟨S_, .i32⟩
  | 77 => ⟨S16x2, .i32⟩
  | 78 => ⟨S16x2, .i32⟩
  | 79 => ⟨S_, .i32⟩
  | 80 => ⟨S16x2, .i32⟩
  | 81 => ⟨S16x2, .i32⟩
  | 82 => ⟨S_, .i32⟩
  | 83 => ⟨S16x2, .i32⟩
  | 84 => ⟨S16x2, .i32⟩
  | 85 => ⟨S16x2, .i32⟩
  | 86 => ⟨S_, .i32⟩
  | 87 => ⟨S16x2, .i32⟩
  | 88 => ⟨S16x2, .i32⟩
  | 89 => ⟨S_, .i32⟩
  | 90 => ⟨S16x2, .i32⟩
  | 91 => ⟨S16x2, .i32⟩
  | 92 => ⟨S16x2, .i32⟩
  | 93 => ⟨S16x2, .i32⟩
  | 94 => ⟨S16x2, .i32⟩
  | 95 => ⟨S_, .i32⟩
  | 96 => ⟨S16x2, .i32⟩
  | 97 => ⟨S16x2, .i32⟩
  | 98 => ⟨S_, .i32⟩
  | 99 => ⟨S16x2, .i32⟩
  | 100 => ⟨S16x2, .i32⟩
  | 101 => ⟨S16x2, .i32⟩
  | 102 => ⟨S16x2, .i32⟩
  | 103 => ⟨S16x2, .i32⟩
  | 104 => ⟨S_, .i32⟩
  | 105 => ⟨S16x2, .i32⟩
  | 106 => ⟨S16x2, .i32⟩
  | 107 => ⟨S_, .i32⟩
  | 108 => ⟨S16x2, .i32⟩
  | 109 => ⟨S16x2, .i32⟩
  | 110 => ⟨S16x2, .i32⟩
  | 111 => ⟨S16x2, .i32⟩
  | 112 => ⟨S16x2, .i32⟩
  | 113 => ⟨S_, .i32⟩
  | 114 => ⟨S16x2, .i32⟩
  | 115 => ⟨S16x2, .i32⟩
  | 116 => ⟨S_, .i32⟩
  | 117 => ⟨S16x2, .i32⟩
  | 118 => ⟨S16x2, .i32⟩
  | 119 => ⟨S16x2, .i32⟩
  | 120 => ⟨S16x2, .i32⟩
  | 121 => ⟨S_, .i32⟩
  | 122 => ⟨S16x2, .i32⟩
  | 123 => ⟨S16x2, .i32⟩
  | 124 => ⟨S_, .i32⟩
  | 125 => ⟨S16x2, .i32⟩
  | 126 => ⟨S16x2, .i32⟩
  | 127 => ⟨S_, .i32⟩
  | _ => ⟨S16x1024x128, .f32⟩

abbrev hbmTy0_4 (i : Nat) : BufTy := match i % 128 with
  | 0 => ⟨S16x2, .i32⟩
  | 1 => ⟨S16x2, .i32⟩
  | 2 => ⟨S16x2, .i32⟩
  | 3 => ⟨S_, .i32⟩
  | 4 => ⟨S16x2, .i32⟩
  | 5 => ⟨S16x2, .i32⟩
  | 6 => ⟨S_, .i32⟩
  | 7 => ⟨S16x2, .i32⟩
  | 8 => ⟨S16x2, .i32⟩
  | 9 => ⟨S16x2, .i32⟩
  | 10 => ⟨S16x2, .i32⟩
  | 11 => ⟨S16x2, .i32⟩
  | 12 => ⟨S_, .i32⟩
  | 13 => ⟨S16x2, .i32⟩
  | 14 => ⟨S16x2, .i32⟩
  | 15 => ⟨S_, .i32⟩
  | 16 => ⟨S16x2, .i32⟩
  | 17 => ⟨S16x2, .i32⟩
  | 18 => ⟨S16x2, .i32⟩
  | 19 => ⟨S16x2, .i32⟩
  | 20 => ⟨S16x2, .i32⟩
  | 21 => ⟨S_, .i32⟩
  | 22 => ⟨S16x2, .i32⟩
  | 23 => ⟨S16x2, .i32⟩
  | 24 => ⟨S_, .i32⟩
  | 25 => ⟨S16x2, .i32⟩
  | 26 => ⟨S16x2, .i32⟩
  | 27 => ⟨S16x2, .i32⟩
  | 28 => ⟨S16x2, .i32⟩
  | 29 => ⟨S16x2, .i32⟩
  | 30 => ⟨S_, .i32⟩
  | 31 => ⟨S16x2, .i32⟩
  | 32 => ⟨S16x2, .i32⟩
  | 33 => ⟨S_, .i32⟩
  | 34 => ⟨S16x2, .i32⟩
  | 35 => ⟨S16x2, .i32⟩
  | 36 => ⟨S16x2, .i32⟩
  | 37 => ⟨S16x2, .i32⟩
  | 38 => ⟨S_, .i32⟩
  | 39 => ⟨S16x2, .i32⟩
  | 40 => ⟨S16x2, .i32⟩
  | 41 => ⟨S_, .i32⟩
  | 42 => ⟨S16x2, .i32⟩
  | 43 => ⟨S16x2, .i32⟩
  | 44 => ⟨S_, .i32⟩
  | 45 => ⟨S16x2, .i32⟩
  | 46 => ⟨S16x2, .i32⟩
  | 47 => ⟨S16x2, .i32⟩
  | 48 => ⟨S_, .i32⟩
  | 49 => ⟨S16x2, .i32⟩
  | 50 => ⟨S16x2, .i32⟩
  | 51 => ⟨S_, .i32⟩
  | 52 => ⟨S16x2, .i32⟩
  | 53 => ⟨S16x2, .i32⟩
  | 54 => ⟨S16x2, .i32⟩
  | 55 => ⟨S16x2, .i32⟩
  | 56 => ⟨S16x2, .i32⟩
  | 57 => ⟨S_, .i32⟩
  | 58 => ⟨S16x2, .i32⟩
  | 59 => ⟨S16x2, .i32⟩
  | 60 => ⟨S_, .i32⟩
  | 61 => ⟨S16x2, .i32⟩
  | 62 => ⟨S16x2, .i32⟩
  | 63 => ⟨S16x2, .i32⟩
  | 64 => ⟨S16x2, .i32⟩
  | 65 => ⟨S16x2, .i32⟩
  | 66 => ⟨S_, .i32⟩
  | 67 => ⟨S16x2, .i32⟩
  | 68 => ⟨S16x2, .i32⟩
  | 69 => ⟨S_, .i32⟩
  | 70 => ⟨S16x2, .i32⟩
  | 71 => ⟨S16x2, .i32⟩
  | 72 => ⟨S16x2, .i32⟩
  | 73 => ⟨S16x2, .i32⟩
  | 74 => ⟨S16x2, .i32⟩
  | 75 => ⟨S_, .i32⟩
  | 76 => ⟨S16x2, .i32⟩
  | 77 => ⟨S16x2, .i32⟩
  | 78 => ⟨S_, .i32⟩
  | 79 => ⟨S16x2, .i32⟩
  | 80 => ⟨S16x2, .i32⟩
  | 81 => ⟨S16x2, .i32⟩
  | 82 => ⟨S16x2, .i32⟩
  | 83 => ⟨S_, .i32⟩
  | 84 => ⟨S16x2, .i32⟩
  | 85 => ⟨S16x2, .i32⟩
  | 86 => ⟨S_, .i32⟩
  | 87 => ⟨S16x2, .i32⟩
  | 88 => ⟨S16x2, .i32⟩
  | 89 => ⟨S_, .i32⟩
  | 90 => ⟨S16x2, .i32⟩
  | 91 => ⟨S16x2, .i32⟩
  | 92 => ⟨S16x2, .i32⟩
  | 93 => ⟨S_, .i32⟩
  | 94 => ⟨S16x2, .i32⟩
  | 95 => ⟨S16x2, .i32⟩
  | 96 => ⟨S_, .i32⟩
  | 97 => ⟨S16x2, .i32⟩
  | 98 => ⟨S16x2, .i32⟩
  | 99 => ⟨S16x2, .i32⟩
  | 100 => ⟨S16x2, .i32⟩
  | 101 => ⟨S16x2, .i32⟩
  | 102 => ⟨S_, .i32⟩
  | 103 => ⟨S16x2, .i32⟩
  | 104 => ⟨S16x2, .i32⟩
  | 105 => ⟨S_, .i32⟩
  | 106 => ⟨S16x2, .i32⟩
  | 107 => ⟨S16x2, .i32⟩
  | 108 => ⟨S16x2, .i32⟩
  | 109 => ⟨S16x2, .i32⟩
  | 110 => ⟨S16x2, .i32⟩
  | 111 => ⟨S_, .i32⟩
  | 112 => ⟨S16x2, .i32⟩
  | 113 => ⟨S16x2, .i32⟩
  | 114 => ⟨S_, .i32⟩
  | 115 => ⟨S16x2, .i32⟩
  | 116 => ⟨S16x2, .i32⟩
  | 117 => ⟨S16x2, .i32⟩
  | 118 => ⟨S16x2, .i32⟩
  | 119 => ⟨S16x2, .i32⟩
  | 120 => ⟨S_, .i32⟩
  | 121 => ⟨S16x2, .i32⟩
  | 122 => ⟨S16x2, .i32⟩
  | 123 => ⟨S_, .i32⟩
  | 124 => ⟨S16x2, .i32⟩
  | 125 => ⟨S16x2, .i32⟩
  | 126 => ⟨S16x2, .i32⟩
  | 127 => ⟨S16x2, .i32⟩
  | _ => ⟨S16x1024x128, .f32⟩

abbrev hbmTy0_5 (i : Nat) : BufTy := match i % 128 with
  | 0 => ⟨S_, .i32⟩
  | 1 => ⟨S16x2, .i32⟩
  | 2 => ⟨S16x2, .i32⟩
  | 3 => ⟨S_, .i32⟩
  | 4 => ⟨S16x2, .i32⟩
  | 5 => ⟨S16x2, .i32⟩
  | 6 => ⟨S_, .i32⟩
  | 7 => ⟨S16x2, .i32⟩
  | 8 => ⟨S16x2, .i32⟩
  | 9 => ⟨S16x2, .i32⟩
  | 10 => ⟨S_, .i32⟩
  | 11 => ⟨S16x2, .i32⟩
  | 12 => ⟨S16x2, .i32⟩
  | 13 => ⟨S_, .i32⟩
  | 14 => ⟨S16x2, .i32⟩
  | 15 => ⟨S16x2, .i32⟩
  | 16 => ⟨S16x2, .f32⟩
  | 17 => ⟨S_, .f32⟩
  | 18 => ⟨S16x2, .f32⟩
  | 19 => ⟨S16x2, .f32⟩
  | 20 => ⟨S_, .f32⟩
  | 21 => ⟨S16x2, .f32⟩
  | 22 => ⟨S16x2, .f32⟩
  | 23 => ⟨S_, .f32⟩
  | 24 => ⟨S16x2, .f32⟩
  | 25 => ⟨S16x2, .f32⟩
  | 26 => ⟨S_, .f32⟩
  | 27 => ⟨S16x2, .f32⟩
  | 28 => ⟨S16x2, .f32⟩
  | 29 => ⟨S_, .f32⟩
  | 30 => ⟨S16x2, .f32⟩
  | 31 => ⟨S16x2, .f32⟩
  | 32 => ⟨S_, .f32⟩
  | 33 => ⟨S16x2, .f32⟩
  | 34 => ⟨S16x2, .f32⟩
  | 35 => ⟨S16x2, .f32⟩
  | 36 => ⟨S_, .f32⟩
  | 37 => ⟨S16x2, .f32⟩
  | 38 => ⟨S16x2, .f32⟩
  | 39 => ⟨S16x2, .f32⟩
  | 40 => ⟨S16x2, .f32⟩
  | 41 => ⟨S16x2, .f32⟩
  | 42 => ⟨S16x2, .f32⟩
  | 43 => ⟨S_, .f32⟩
  | 44 => ⟨S16x2, .f32⟩
  | 45 => ⟨S16x2, .f32⟩
  | 46 => ⟨S16x2, .f32⟩
  | 47 => ⟨S16x2, .f32⟩
  | 48 => ⟨S16x2, .f32⟩
  | 49 => ⟨S16x2, .f32⟩
  | 50 => ⟨S16x2, .f32⟩
  | 51 => ⟨S16x2, .f32⟩
  | 52 => ⟨S16x2, .f32⟩
  | 53 => ⟨S16x2, .f32⟩
  | 54 => ⟨S_, .f32⟩
  | 55 => ⟨S16x2, .f32⟩
  | 56 => ⟨S16x2, .f32⟩
  | 57 => ⟨S16x2, .f32⟩
  | 58 => ⟨S16x2, .f32⟩
  | 59 => ⟨S_, .f32⟩
  | 60 => ⟨S16x2, .f32⟩
  | 61 => ⟨S16x2, .f32⟩
  | 62 => ⟨S_, .f32⟩
  | 63 => ⟨S16x2, .f32⟩
  | 64 => ⟨S16x2, .f32⟩
  | 65 => ⟨S16x1x2, .f32⟩
  | 66 => ⟨S_, .i32⟩
  | 67 => ⟨S_, .f32⟩
  | 68 => ⟨S16x1024x1024, .f32⟩
  | _ => ⟨S16x1024x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x1024x128, .f32⟩

abbrev bufTy : (tb : Table) → Fin (tcTables nBuf tb) → BufTy
  | .hbm, ⟨i, _⟩ => hbmTy i
  | _, _ => ⟨S16x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_call0_v0 : Ref sig .tc := ⟨.hbm, 16, rfl⟩
abbrev main_call0_v1_0 : Ref sig .tc := ⟨.hbm, 17, rfl⟩
abbrev main_v9 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_call2_call0_c : Ref sig .tc := ⟨.hbm, 34, rfl⟩
abbrev main_call2_call0_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_call3_v0 : Ref sig .tc := ⟨.hbm, 47, rfl⟩
abbrev main_call3_v1 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_c_7 : Ref sig .tc := ⟨.hbm, 58, rfl⟩
abbrev main_v32 : Ref sig .tc := ⟨.hbm, 59, rfl⟩
abbrev main_v33 : Ref sig .tc := ⟨.hbm, 60, rfl⟩
abbrev main_c_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_9 : Ref sig .tc := ⟨.hbm, 65, rfl⟩
abbrev main_v37 : Ref sig .tc := ⟨.hbm, 66, rfl⟩
abbrev main_v38 : Ref sig .tc := ⟨.hbm, 67, rfl⟩
abbrev main_c_10 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_11 : Ref sig .tc := ⟨.hbm, 74, rfl⟩
abbrev main_v44 : Ref sig .tc := ⟨.hbm, 75, rfl⟩
abbrev main_v45 : Ref sig .tc := ⟨.hbm, 76, rfl⟩
abbrev main_c_12 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_13 : Ref sig .tc := ⟨.hbm, 83, rfl⟩
abbrev main_v51 : Ref sig .tc := ⟨.hbm, 84, rfl⟩
abbrev main_v52 : Ref sig .tc := ⟨.hbm, 85, rfl⟩
abbrev main_c_14 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_15 : Ref sig .tc := ⟨.hbm, 92, rfl⟩
abbrev main_v58 : Ref sig .tc := ⟨.hbm, 93, rfl⟩
abbrev main_v59 : Ref sig .tc := ⟨.hbm, 94, rfl⟩
abbrev main_c_16 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_17 : Ref sig .tc := ⟨.hbm, 100, rfl⟩
abbrev main_v64 : Ref sig .tc := ⟨.hbm, 101, rfl⟩
abbrev main_v65 : Ref sig .tc := ⟨.hbm, 102, rfl⟩
abbrev main_c_18 : Ref sig .tc := ⟨.hbm, 103, rfl⟩
abbrev main_v66 : Ref sig .tc := ⟨.hbm, 104, rfl⟩
abbrev main_v67 : Ref sig .tc := ⟨.hbm, 105, rfl⟩
abbrev main_c_19 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_20 : Ref sig .tc := ⟨.hbm, 110, rfl⟩
abbrev main_v71 : Ref sig .tc := ⟨.hbm, 111, rfl⟩
abbrev main_v72 : Ref sig .tc := ⟨.hbm, 112, rfl⟩
abbrev main_c_21 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c_22 : Ref sig .tc := ⟨.hbm, 119, rfl⟩
abbrev main_v78 : Ref sig .tc := ⟨.hbm, 120, rfl⟩
abbrev main_v79 : Ref sig .tc := ⟨.hbm, 121, rfl⟩
abbrev main_c_23 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_24 : Ref sig .tc := ⟨.hbm, 128, rfl⟩
abbrev main_v85 : Ref sig .tc := ⟨.hbm, 129, rfl⟩
abbrev main_v86 : Ref sig .tc := ⟨.hbm, 130, rfl⟩
abbrev main_c_25 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_c_26 : Ref sig .tc := ⟨.hbm, 137, rfl⟩
abbrev main_v92 : Ref sig .tc := ⟨.hbm, 138, rfl⟩
abbrev main_v93 : Ref sig .tc := ⟨.hbm, 139, rfl⟩
abbrev main_c_27 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_c_28 : Ref sig .tc := ⟨.hbm, 145, rfl⟩
abbrev main_v98 : Ref sig .tc := ⟨.hbm, 146, rfl⟩
abbrev main_v99 : Ref sig .tc := ⟨.hbm, 147, rfl⟩
abbrev main_c_29 : Ref sig .tc := ⟨.hbm, 148, rfl⟩
abbrev main_v100 : Ref sig .tc := ⟨.hbm, 149, rfl⟩
abbrev main_v101 : Ref sig .tc := ⟨.hbm, 150, rfl⟩
abbrev main_c_30 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_c_31 : Ref sig .tc := ⟨.hbm, 155, rfl⟩
abbrev main_v105 : Ref sig .tc := ⟨.hbm, 156, rfl⟩
abbrev main_v106 : Ref sig .tc := ⟨.hbm, 157, rfl⟩
abbrev main_c_32 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_c_33 : Ref sig .tc := ⟨.hbm, 164, rfl⟩
abbrev main_v112 : Ref sig .tc := ⟨.hbm, 165, rfl⟩
abbrev main_v113 : Ref sig .tc := ⟨.hbm, 166, rfl⟩
abbrev main_c_34 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_c_35 : Ref sig .tc := ⟨.hbm, 173, rfl⟩
abbrev main_v119 : Ref sig .tc := ⟨.hbm, 174, rfl⟩
abbrev main_v120 : Ref sig .tc := ⟨.hbm, 175, rfl⟩
abbrev main_c_36 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_c_37 : Ref sig .tc := ⟨.hbm, 182, rfl⟩
abbrev main_v126 : Ref sig .tc := ⟨.hbm, 183, rfl⟩
abbrev main_v127 : Ref sig .tc := ⟨.hbm, 184, rfl⟩
abbrev main_c_38 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_c_39 : Ref sig .tc := ⟨.hbm, 190, rfl⟩
abbrev main_v132 : Ref sig .tc := ⟨.hbm, 191, rfl⟩
abbrev main_v133 : Ref sig .tc := ⟨.hbm, 192, rfl⟩
abbrev main_c_40 : Ref sig .tc := ⟨.hbm, 193, rfl⟩
abbrev main_v134 : Ref sig .tc := ⟨.hbm, 194, rfl⟩
abbrev main_v135 : Ref sig .tc := ⟨.hbm, 195, rfl⟩
abbrev main_c_41 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_c_42 : Ref sig .tc := ⟨.hbm, 200, rfl⟩
abbrev main_v139 : Ref sig .tc := ⟨.hbm, 201, rfl⟩
abbrev main_v140 : Ref sig .tc := ⟨.hbm, 202, rfl⟩
abbrev main_c_43 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_c_44 : Ref sig .tc := ⟨.hbm, 209, rfl⟩
abbrev main_v146 : Ref sig .tc := ⟨.hbm, 210, rfl⟩
abbrev main_v147 : Ref sig .tc := ⟨.hbm, 211, rfl⟩
abbrev main_c_45 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_c_46 : Ref sig .tc := ⟨.hbm, 218, rfl⟩
abbrev main_v153 : Ref sig .tc := ⟨.hbm, 219, rfl⟩
abbrev main_v154 : Ref sig .tc := ⟨.hbm, 220, rfl⟩
abbrev main_c_47 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_c_48 : Ref sig .tc := ⟨.hbm, 227, rfl⟩
abbrev main_v160 : Ref sig .tc := ⟨.hbm, 228, rfl⟩
abbrev main_v161 : Ref sig .tc := ⟨.hbm, 229, rfl⟩
abbrev main_c_49 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_c_50 : Ref sig .tc := ⟨.hbm, 235, rfl⟩
abbrev main_v166 : Ref sig .tc := ⟨.hbm, 236, rfl⟩
abbrev main_v167 : Ref sig .tc := ⟨.hbm, 237, rfl⟩
abbrev main_c_51 : Ref sig .tc := ⟨.hbm, 238, rfl⟩
abbrev main_v168 : Ref sig .tc := ⟨.hbm, 239, rfl⟩
abbrev main_v169 : Ref sig .tc := ⟨.hbm, 240, rfl⟩
abbrev main_c_52 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_c_53 : Ref sig .tc := ⟨.hbm, 245, rfl⟩
abbrev main_v173 : Ref sig .tc := ⟨.hbm, 246, rfl⟩
abbrev main_v174 : Ref sig .tc := ⟨.hbm, 247, rfl⟩
abbrev main_c_54 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_c_55 : Ref sig .tc := ⟨.hbm, 254, rfl⟩
abbrev main_v180 : Ref sig .tc := ⟨.hbm, 255, rfl⟩
abbrev main_v181 : Ref sig .tc := ⟨.hbm, 256, rfl⟩
abbrev main_c_56 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_c_57 : Ref sig .tc := ⟨.hbm, 263, rfl⟩
abbrev main_v187 : Ref sig .tc := ⟨.hbm, 264, rfl⟩
abbrev main_v188 : Ref sig .tc := ⟨.hbm, 265, rfl⟩
abbrev main_c_58 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_c_59 : Ref sig .tc := ⟨.hbm, 272, rfl⟩
abbrev main_v194 : Ref sig .tc := ⟨.hbm, 273, rfl⟩
abbrev main_v195 : Ref sig .tc := ⟨.hbm, 274, rfl⟩
abbrev main_c_60 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_c_61 : Ref sig .tc := ⟨.hbm, 280, rfl⟩
abbrev main_v200 : Ref sig .tc := ⟨.hbm, 281, rfl⟩
abbrev main_v201 : Ref sig .tc := ⟨.hbm, 282, rfl⟩
abbrev main_c_62 : Ref sig .tc := ⟨.hbm, 283, rfl⟩
abbrev main_v202 : Ref sig .tc := ⟨.hbm, 284, rfl⟩
abbrev main_v203 : Ref sig .tc := ⟨.hbm, 285, rfl⟩
abbrev main_c_63 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_c_64 : Ref sig .tc := ⟨.hbm, 290, rfl⟩
abbrev main_v207 : Ref sig .tc := ⟨.hbm, 291, rfl⟩
abbrev main_v208 : Ref sig .tc := ⟨.hbm, 292, rfl⟩
abbrev main_c_65 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_cst_66 : Ref sig .tc := ⟨.hbm, 297, rfl⟩
abbrev main_v212 : Ref sig .tc := ⟨.hbm, 298, rfl⟩
abbrev main_v213 : Ref sig .tc := ⟨.hbm, 299, rfl⟩
abbrev main_cst_67 : Ref sig .tc := ⟨.hbm, 300, rfl⟩
abbrev main_v214 : Ref sig .tc := ⟨.hbm, 301, rfl⟩
abbrev main_v215 : Ref sig .tc := ⟨.hbm, 302, rfl⟩
abbrev main_cst_68 : Ref sig .tc := ⟨.hbm, 303, rfl⟩
abbrev main_v216 : Ref sig .tc := ⟨.hbm, 304, rfl⟩
abbrev main_v217 : Ref sig .tc := ⟨.hbm, 305, rfl⟩
abbrev main_cst_69 : Ref sig .tc := ⟨.hbm, 306, rfl⟩
abbrev main_v218 : Ref sig .tc := ⟨.hbm, 307, rfl⟩
abbrev main_v219 : Ref sig .tc := ⟨.hbm, 308, rfl⟩
abbrev main_c_70 : Ref sig .tc := ⟨.hbm, 309, rfl⟩
abbrev main_v220 : Ref sig .tc := ⟨.hbm, 310, rfl⟩
abbrev main_v221 : Ref sig .tc := ⟨.hbm, 311, rfl⟩
abbrev main_c_71 : Ref sig .tc := ⟨.hbm, 312, rfl⟩
abbrev main_v222 : Ref sig .tc := ⟨.hbm, 313, rfl⟩
abbrev main_v223 : Ref sig .tc := ⟨.hbm, 314, rfl⟩
abbrev main_v224 : Ref sig .tc := ⟨.hbm, 315, rfl⟩
abbrev main_v225 : Ref sig .tc := ⟨.hbm, 316, rfl⟩
abbrev main_v226 : Ref sig .tc := ⟨.hbm, 317, rfl⟩
abbrev main_v227 : Ref sig .tc := ⟨.hbm, 318, rfl⟩
abbrev main_v228 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_cst_72 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩
abbrev main_cst_73 : Ref sig .tc := ⟨.hbm, 330, rfl⟩
abbrev main_v238 : Ref sig .tc := ⟨.hbm, 331, rfl⟩
abbrev main_v239 : Ref sig .tc := ⟨.hbm, 332, rfl⟩
abbrev main_cst_74 : Ref sig .tc := ⟨.hbm, 333, rfl⟩
abbrev main_v240 : Ref sig .tc := ⟨.hbm, 334, rfl⟩
abbrev main_v241 : Ref sig .tc := ⟨.hbm, 335, rfl⟩
abbrev main_v242 : Ref sig .tc := ⟨.hbm, 336, rfl⟩
abbrev main_cst_75 : Ref sig .tc := ⟨.hbm, 337, rfl⟩
abbrev main_v243 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_cst_76 : Ref sig .tc := ⟨.hbm, 344, rfl⟩
abbrev main_v249 : Ref sig .tc := ⟨.hbm, 345, rfl⟩
abbrev main_v250 : Ref sig .tc := ⟨.hbm, 346, rfl⟩
abbrev main_v251 : Ref sig .tc := ⟨.hbm, 347, rfl⟩
abbrev main_v252 : Ref sig .tc := ⟨.hbm, 348, rfl⟩
abbrev main_v253 : Ref sig .tc := ⟨.hbm, 349, rfl⟩
abbrev main_v254 : Ref sig .tc := ⟨.hbm, 350, rfl⟩
abbrev main_v255 : Ref sig .tc := ⟨.hbm, 351, rfl⟩
abbrev main_v256 : Ref sig .tc := ⟨.hbm, 352, rfl⟩
abbrev main_v257 : Ref sig .tc := ⟨.hbm, 353, rfl⟩
abbrev main_v258 : Ref sig .tc := ⟨.hbm, 354, rfl⟩
abbrev main_cst_77 : Ref sig .tc := ⟨.hbm, 355, rfl⟩
abbrev main_v259 : Ref sig .tc := ⟨.hbm, 356, rfl⟩
abbrev main_v260 : Ref sig .tc := ⟨.hbm, 357, rfl⟩
abbrev main_v261 : Ref sig .tc := ⟨.hbm, 358, rfl⟩
abbrev main_v262 : Ref sig .tc := ⟨.hbm, 359, rfl⟩
abbrev main_cst_78 : Ref sig .tc := ⟨.hbm, 360, rfl⟩
abbrev main_v263 : Ref sig .tc := ⟨.hbm, 361, rfl⟩
abbrev main_v264 : Ref sig .tc := ⟨.hbm, 362, rfl⟩
abbrev main_cst_79 : Ref sig .tc := ⟨.hbm, 363, rfl⟩
abbrev main_v265 : Ref sig .tc := ⟨.hbm, 364, rfl⟩
abbrev main_v266 : Ref sig .tc := ⟨.hbm, 365, rfl⟩
abbrev main_v267 : Ref sig .tc := ⟨.hbm, 366, rfl⟩
abbrev main_cst_80 : Ref sig .tc := ⟨.hbm, 367, rfl⟩
abbrev main_call4_v0 : Ref sig .tc := ⟨.hbm, 368, rfl⟩
abbrev main_call4_v1 : Ref sig .tc := ⟨.hbm, 369, rfl⟩
abbrev main_call4_v2 : Ref sig .tc := ⟨.hbm, 370, rfl⟩
abbrev main_v268 : Ref sig .tc := ⟨.hbm, 371, rfl⟩
abbrev main_call5_v0 : Ref sig .tc := ⟨.hbm, 372, rfl⟩
abbrev main_call5_v1_0 : Ref sig .tc := ⟨.hbm, 373, rfl⟩
abbrev main_v269 : Ref sig .tc := ⟨.hbm, 374, rfl⟩
abbrev main_v270 : Ref sig .tc := ⟨.hbm, 375, rfl⟩
abbrev main_v271 : Ref sig .tc := ⟨.hbm, 376, rfl⟩
abbrev main_call6_c : Ref sig .tc := ⟨.hbm, 377, rfl⟩
abbrev main_call6_v0 : Ref sig .tc := ⟨.hbm, 378, rfl⟩
abbrev main_call6_v1 : Ref sig .tc := ⟨.hbm, 379, rfl⟩
abbrev main_call6_c_0 : Ref sig .tc := ⟨.hbm, 380, rfl⟩
abbrev main_call6_v2 : Ref sig .tc := ⟨.hbm, 381, rfl⟩
abbrev main_call6_v3 : Ref sig .tc := ⟨.hbm, 382, rfl⟩
abbrev main_call6_v4 : Ref sig .tc := ⟨.hbm, 383, rfl⟩
abbrev main_call6_v5 : Ref sig .tc := ⟨.hbm, 384, rfl⟩
abbrev main_v272 : Ref sig .tc := ⟨.hbm, 385, rfl⟩
abbrev main_v273 : Ref sig .tc := ⟨.hbm, 386, rfl⟩
abbrev main_call7_c : Ref sig .tc := ⟨.hbm, 387, rfl⟩
abbrev main_call7_v0 : Ref sig .tc := ⟨.hbm, 388, rfl⟩
abbrev main_call7_v1 : Ref sig .tc := ⟨.hbm, 389, rfl⟩
abbrev main_call7_c_0 : Ref sig .tc := ⟨.hbm, 390, rfl⟩
abbrev main_call7_v2 : Ref sig .tc := ⟨.hbm, 391, rfl⟩
abbrev main_call7_v3 : Ref sig .tc := ⟨.hbm, 392, rfl⟩
abbrev main_call7_v4 : Ref sig .tc := ⟨.hbm, 393, rfl⟩
abbrev main_call7_v5 : Ref sig .tc := ⟨.hbm, 394, rfl⟩
abbrev main_v274 : Ref sig .tc := ⟨.hbm, 395, rfl⟩
abbrev main_v275 : Ref sig .tc := ⟨.hbm, 396, rfl⟩
abbrev main_v276 : Ref sig .tc := ⟨.hbm, 397, rfl⟩
abbrev main_v277 : Ref sig .tc := ⟨.hbm, 398, rfl⟩
abbrev main_v278 : Ref sig .tc := ⟨.hbm, 399, rfl⟩
abbrev main_v279 : Ref sig .tc := ⟨.hbm, 400, rfl⟩
abbrev main_v280 : Ref sig .tc := ⟨.hbm, 401, rfl⟩
abbrev main_cst_81 : Ref sig .tc := ⟨.hbm, 402, rfl⟩
abbrev main_v281 : Ref sig .tc := ⟨.hbm, 403, rfl⟩
abbrev main_cst_82 : Ref sig .tc := ⟨.hbm, 404, rfl⟩
abbrev main_v282 : Ref sig .tc := ⟨.hbm, 405, rfl⟩
abbrev main_v283 : Ref sig .tc := ⟨.hbm, 406, rfl⟩
abbrev main_v284 : Ref sig .tc := ⟨.hbm, 407, rfl⟩
abbrev main_v285 : Ref sig .tc := ⟨.hbm, 408, rfl⟩
abbrev main_v286 : Ref sig .tc := ⟨.hbm, 409, rfl⟩
abbrev main_v287 : Ref sig .tc := ⟨.hbm, 410, rfl⟩
abbrev main_c_83 : Ref sig .tc := ⟨.hbm, 411, rfl⟩
abbrev main_v288 : Ref sig .tc := ⟨.hbm, 412, rfl⟩
abbrev main_v289 : Ref sig .tc := ⟨.hbm, 413, rfl⟩
abbrev main_v290 : Ref sig .tc := ⟨.hbm, 414, rfl⟩
abbrev main_v291 : Ref sig .tc := ⟨.hbm, 415, rfl⟩
abbrev main_c_84 : Ref sig .tc := ⟨.hbm, 416, rfl⟩
abbrev main_v292 : Ref sig .tc := ⟨.hbm, 417, rfl⟩
abbrev main_c_85 : Ref sig .tc := ⟨.hbm, 418, rfl⟩
abbrev main_v293 : Ref sig .tc := ⟨.hbm, 419, rfl⟩
abbrev main_v294 : Ref sig .tc := ⟨.hbm, 420, rfl⟩
abbrev main_c_86 : Ref sig .tc := ⟨.hbm, 421, rfl⟩
abbrev main_v295 : Ref sig .tc := ⟨.hbm, 422, rfl⟩
abbrev main_v296 : Ref sig .tc := ⟨.hbm, 423, rfl⟩
abbrev main_v297 : Ref sig .tc := ⟨.hbm, 424, rfl⟩
abbrev main_c_87 : Ref sig .tc := ⟨.hbm, 425, rfl⟩
abbrev main_v298 : Ref sig .tc := ⟨.hbm, 426, rfl⟩
abbrev main_v299 : Ref sig .tc := ⟨.hbm, 427, rfl⟩
abbrev main_c_88 : Ref sig .tc := ⟨.hbm, 428, rfl⟩
abbrev main_v300 : Ref sig .tc := ⟨.hbm, 429, rfl⟩
abbrev main_v301 : Ref sig .tc := ⟨.hbm, 430, rfl⟩
abbrev main_v302 : Ref sig .tc := ⟨.hbm, 431, rfl⟩
abbrev main_v303 : Ref sig .tc := ⟨.hbm, 432, rfl⟩
abbrev main_v304 : Ref sig .tc := ⟨.hbm, 433, rfl⟩
abbrev main_c_89 : Ref sig .tc := ⟨.hbm, 434, rfl⟩
abbrev main_v305 : Ref sig .tc := ⟨.hbm, 435, rfl⟩
abbrev main_v306 : Ref sig .tc := ⟨.hbm, 436, rfl⟩
abbrev main_c_90 : Ref sig .tc := ⟨.hbm, 437, rfl⟩
abbrev main_v307 : Ref sig .tc := ⟨.hbm, 438, rfl⟩
abbrev main_v308 : Ref sig .tc := ⟨.hbm, 439, rfl⟩
abbrev main_v309 : Ref sig .tc := ⟨.hbm, 440, rfl⟩
abbrev main_v310 : Ref sig .tc := ⟨.hbm, 441, rfl⟩
abbrev main_v311 : Ref sig .tc := ⟨.hbm, 442, rfl⟩
abbrev main_c_91 : Ref sig .tc := ⟨.hbm, 443, rfl⟩
abbrev main_v312 : Ref sig .tc := ⟨.hbm, 444, rfl⟩
abbrev main_v313 : Ref sig .tc := ⟨.hbm, 445, rfl⟩
abbrev main_c_92 : Ref sig .tc := ⟨.hbm, 446, rfl⟩
abbrev main_v314 : Ref sig .tc := ⟨.hbm, 447, rfl⟩
abbrev main_v315 : Ref sig .tc := ⟨.hbm, 448, rfl⟩
abbrev main_v316 : Ref sig .tc := ⟨.hbm, 449, rfl⟩
abbrev main_v317 : Ref sig .tc := ⟨.hbm, 450, rfl⟩
abbrev main_v318 : Ref sig .tc := ⟨.hbm, 451, rfl⟩
abbrev main_c_93 : Ref sig .tc := ⟨.hbm, 452, rfl⟩
abbrev main_v319 : Ref sig .tc := ⟨.hbm, 453, rfl⟩
abbrev main_v320 : Ref sig .tc := ⟨.hbm, 454, rfl⟩
abbrev main_c_94 : Ref sig .tc := ⟨.hbm, 455, rfl⟩
abbrev main_v321 : Ref sig .tc := ⟨.hbm, 456, rfl⟩
abbrev main_v322 : Ref sig .tc := ⟨.hbm, 457, rfl⟩
abbrev main_v323 : Ref sig .tc := ⟨.hbm, 458, rfl⟩
abbrev main_v324 : Ref sig .tc := ⟨.hbm, 459, rfl⟩
abbrev main_c_95 : Ref sig .tc := ⟨.hbm, 460, rfl⟩
abbrev main_v325 : Ref sig .tc := ⟨.hbm, 461, rfl⟩
abbrev main_v326 : Ref sig .tc := ⟨.hbm, 462, rfl⟩
abbrev main_c_96 : Ref sig .tc := ⟨.hbm, 463, rfl⟩
abbrev main_v327 : Ref sig .tc := ⟨.hbm, 464, rfl⟩
abbrev main_v328 : Ref sig .tc := ⟨.hbm, 465, rfl⟩
abbrev main_c_97 : Ref sig .tc := ⟨.hbm, 466, rfl⟩
abbrev main_v329 : Ref sig .tc := ⟨.hbm, 467, rfl⟩
abbrev main_v330 : Ref sig .tc := ⟨.hbm, 468, rfl⟩
abbrev main_v331 : Ref sig .tc := ⟨.hbm, 469, rfl⟩
abbrev main_c_98 : Ref sig .tc := ⟨.hbm, 470, rfl⟩
abbrev main_v332 : Ref sig .tc := ⟨.hbm, 471, rfl⟩
abbrev main_v333 : Ref sig .tc := ⟨.hbm, 472, rfl⟩
abbrev main_c_99 : Ref sig .tc := ⟨.hbm, 473, rfl⟩
abbrev main_v334 : Ref sig .tc := ⟨.hbm, 474, rfl⟩
abbrev main_v335 : Ref sig .tc := ⟨.hbm, 475, rfl⟩
abbrev main_v336 : Ref sig .tc := ⟨.hbm, 476, rfl⟩
abbrev main_v337 : Ref sig .tc := ⟨.hbm, 477, rfl⟩
abbrev main_v338 : Ref sig .tc := ⟨.hbm, 478, rfl⟩
abbrev main_c_100 : Ref sig .tc := ⟨.hbm, 479, rfl⟩
abbrev main_v339 : Ref sig .tc := ⟨.hbm, 480, rfl⟩
abbrev main_v340 : Ref sig .tc := ⟨.hbm, 481, rfl⟩
abbrev main_c_101 : Ref sig .tc := ⟨.hbm, 482, rfl⟩
abbrev main_v341 : Ref sig .tc := ⟨.hbm, 483, rfl⟩
abbrev main_v342 : Ref sig .tc := ⟨.hbm, 484, rfl⟩
abbrev main_v343 : Ref sig .tc := ⟨.hbm, 485, rfl⟩
abbrev main_v344 : Ref sig .tc := ⟨.hbm, 486, rfl⟩
abbrev main_v345 : Ref sig .tc := ⟨.hbm, 487, rfl⟩
abbrev main_c_102 : Ref sig .tc := ⟨.hbm, 488, rfl⟩
abbrev main_v346 : Ref sig .tc := ⟨.hbm, 489, rfl⟩
abbrev main_v347 : Ref sig .tc := ⟨.hbm, 490, rfl⟩
abbrev main_c_103 : Ref sig .tc := ⟨.hbm, 491, rfl⟩
abbrev main_v348 : Ref sig .tc := ⟨.hbm, 492, rfl⟩
abbrev main_v349 : Ref sig .tc := ⟨.hbm, 493, rfl⟩
abbrev main_v350 : Ref sig .tc := ⟨.hbm, 494, rfl⟩
abbrev main_v351 : Ref sig .tc := ⟨.hbm, 495, rfl⟩
abbrev main_v352 : Ref sig .tc := ⟨.hbm, 496, rfl⟩
abbrev main_c_104 : Ref sig .tc := ⟨.hbm, 497, rfl⟩
abbrev main_v353 : Ref sig .tc := ⟨.hbm, 498, rfl⟩
abbrev main_v354 : Ref sig .tc := ⟨.hbm, 499, rfl⟩
abbrev main_c_105 : Ref sig .tc := ⟨.hbm, 500, rfl⟩
abbrev main_v355 : Ref sig .tc := ⟨.hbm, 501, rfl⟩
abbrev main_v356 : Ref sig .tc := ⟨.hbm, 502, rfl⟩
abbrev main_v357 : Ref sig .tc := ⟨.hbm, 503, rfl⟩
abbrev main_v358 : Ref sig .tc := ⟨.hbm, 504, rfl⟩
abbrev main_c_106 : Ref sig .tc := ⟨.hbm, 505, rfl⟩
abbrev main_v359 : Ref sig .tc := ⟨.hbm, 506, rfl⟩
abbrev main_v360 : Ref sig .tc := ⟨.hbm, 507, rfl⟩
abbrev main_c_107 : Ref sig .tc := ⟨.hbm, 508, rfl⟩
abbrev main_v361 : Ref sig .tc := ⟨.hbm, 509, rfl⟩
abbrev main_v362 : Ref sig .tc := ⟨.hbm, 510, rfl⟩
abbrev main_c_108 : Ref sig .tc := ⟨.hbm, 511, rfl⟩
abbrev main_v363 : Ref sig .tc := ⟨.hbm, 512, rfl⟩
abbrev main_v364 : Ref sig .tc := ⟨.hbm, 513, rfl⟩
abbrev main_v365 : Ref sig .tc := ⟨.hbm, 514, rfl⟩
abbrev main_c_109 : Ref sig .tc := ⟨.hbm, 515, rfl⟩
abbrev main_v366 : Ref sig .tc := ⟨.hbm, 516, rfl⟩
abbrev main_v367 : Ref sig .tc := ⟨.hbm, 517, rfl⟩
abbrev main_c_110 : Ref sig .tc := ⟨.hbm, 518, rfl⟩
abbrev main_v368 : Ref sig .tc := ⟨.hbm, 519, rfl⟩
abbrev main_v369 : Ref sig .tc := ⟨.hbm, 520, rfl⟩
abbrev main_v370 : Ref sig .tc := ⟨.hbm, 521, rfl⟩
abbrev main_v371 : Ref sig .tc := ⟨.hbm, 522, rfl⟩
abbrev main_v372 : Ref sig .tc := ⟨.hbm, 523, rfl⟩
abbrev main_c_111 : Ref sig .tc := ⟨.hbm, 524, rfl⟩
abbrev main_v373 : Ref sig .tc := ⟨.hbm, 525, rfl⟩
abbrev main_v374 : Ref sig .tc := ⟨.hbm, 526, rfl⟩
abbrev main_c_112 : Ref sig .tc := ⟨.hbm, 527, rfl⟩
abbrev main_v375 : Ref sig .tc := ⟨.hbm, 528, rfl⟩
abbrev main_v376 : Ref sig .tc := ⟨.hbm, 529, rfl⟩
abbrev main_v377 : Ref sig .tc := ⟨.hbm, 530, rfl⟩
abbrev main_v378 : Ref sig .tc := ⟨.hbm, 531, rfl⟩
abbrev main_v379 : Ref sig .tc := ⟨.hbm, 532, rfl⟩
abbrev main_c_113 : Ref sig .tc := ⟨.hbm, 533, rfl⟩
abbrev main_v380 : Ref sig .tc := ⟨.hbm, 534, rfl⟩
abbrev main_v381 : Ref sig .tc := ⟨.hbm, 535, rfl⟩
abbrev main_c_114 : Ref sig .tc := ⟨.hbm, 536, rfl⟩
abbrev main_v382 : Ref sig .tc := ⟨.hbm, 537, rfl⟩
abbrev main_v383 : Ref sig .tc := ⟨.hbm, 538, rfl⟩
abbrev main_v384 : Ref sig .tc := ⟨.hbm, 539, rfl⟩
abbrev main_v385 : Ref sig .tc := ⟨.hbm, 540, rfl⟩
abbrev main_v386 : Ref sig .tc := ⟨.hbm, 541, rfl⟩
abbrev main_c_115 : Ref sig .tc := ⟨.hbm, 542, rfl⟩
abbrev main_v387 : Ref sig .tc := ⟨.hbm, 543, rfl⟩
abbrev main_v388 : Ref sig .tc := ⟨.hbm, 544, rfl⟩
abbrev main_c_116 : Ref sig .tc := ⟨.hbm, 545, rfl⟩
abbrev main_v389 : Ref sig .tc := ⟨.hbm, 546, rfl⟩
abbrev main_v390 : Ref sig .tc := ⟨.hbm, 547, rfl⟩
abbrev main_v391 : Ref sig .tc := ⟨.hbm, 548, rfl⟩
abbrev main_v392 : Ref sig .tc := ⟨.hbm, 549, rfl⟩
abbrev main_c_117 : Ref sig .tc := ⟨.hbm, 550, rfl⟩
abbrev main_v393 : Ref sig .tc := ⟨.hbm, 551, rfl⟩
abbrev main_v394 : Ref sig .tc := ⟨.hbm, 552, rfl⟩
abbrev main_c_118 : Ref sig .tc := ⟨.hbm, 553, rfl⟩
abbrev main_v395 : Ref sig .tc := ⟨.hbm, 554, rfl⟩
abbrev main_v396 : Ref sig .tc := ⟨.hbm, 555, rfl⟩
abbrev main_c_119 : Ref sig .tc := ⟨.hbm, 556, rfl⟩
abbrev main_v397 : Ref sig .tc := ⟨.hbm, 557, rfl⟩
abbrev main_v398 : Ref sig .tc := ⟨.hbm, 558, rfl⟩
abbrev main_v399 : Ref sig .tc := ⟨.hbm, 559, rfl⟩
abbrev main_c_120 : Ref sig .tc := ⟨.hbm, 560, rfl⟩
abbrev main_v400 : Ref sig .tc := ⟨.hbm, 561, rfl⟩
abbrev main_v401 : Ref sig .tc := ⟨.hbm, 562, rfl⟩
abbrev main_c_121 : Ref sig .tc := ⟨.hbm, 563, rfl⟩
abbrev main_v402 : Ref sig .tc := ⟨.hbm, 564, rfl⟩
abbrev main_v403 : Ref sig .tc := ⟨.hbm, 565, rfl⟩
abbrev main_v404 : Ref sig .tc := ⟨.hbm, 566, rfl⟩
abbrev main_v405 : Ref sig .tc := ⟨.hbm, 567, rfl⟩
abbrev main_v406 : Ref sig .tc := ⟨.hbm, 568, rfl⟩
abbrev main_c_122 : Ref sig .tc := ⟨.hbm, 569, rfl⟩
abbrev main_v407 : Ref sig .tc := ⟨.hbm, 570, rfl⟩
abbrev main_v408 : Ref sig .tc := ⟨.hbm, 571, rfl⟩
abbrev main_c_123 : Ref sig .tc := ⟨.hbm, 572, rfl⟩
abbrev main_v409 : Ref sig .tc := ⟨.hbm, 573, rfl⟩
abbrev main_v410 : Ref sig .tc := ⟨.hbm, 574, rfl⟩
abbrev main_v411 : Ref sig .tc := ⟨.hbm, 575, rfl⟩
abbrev main_v412 : Ref sig .tc := ⟨.hbm, 576, rfl⟩
abbrev main_v413 : Ref sig .tc := ⟨.hbm, 577, rfl⟩
abbrev main_c_124 : Ref sig .tc := ⟨.hbm, 578, rfl⟩
abbrev main_v414 : Ref sig .tc := ⟨.hbm, 579, rfl⟩
abbrev main_v415 : Ref sig .tc := ⟨.hbm, 580, rfl⟩
abbrev main_c_125 : Ref sig .tc := ⟨.hbm, 581, rfl⟩
abbrev main_v416 : Ref sig .tc := ⟨.hbm, 582, rfl⟩
abbrev main_v417 : Ref sig .tc := ⟨.hbm, 583, rfl⟩
abbrev main_v418 : Ref sig .tc := ⟨.hbm, 584, rfl⟩
abbrev main_v419 : Ref sig .tc := ⟨.hbm, 585, rfl⟩
abbrev main_v420 : Ref sig .tc := ⟨.hbm, 586, rfl⟩
abbrev main_c_126 : Ref sig .tc := ⟨.hbm, 587, rfl⟩
abbrev main_v421 : Ref sig .tc := ⟨.hbm, 588, rfl⟩
abbrev main_v422 : Ref sig .tc := ⟨.hbm, 589, rfl⟩
abbrev main_c_127 : Ref sig .tc := ⟨.hbm, 590, rfl⟩
abbrev main_v423 : Ref sig .tc := ⟨.hbm, 591, rfl⟩
abbrev main_v424 : Ref sig .tc := ⟨.hbm, 592, rfl⟩
abbrev main_v425 : Ref sig .tc := ⟨.hbm, 593, rfl⟩
abbrev main_v426 : Ref sig .tc := ⟨.hbm, 594, rfl⟩
abbrev main_c_128 : Ref sig .tc := ⟨.hbm, 595, rfl⟩
abbrev main_v427 : Ref sig .tc := ⟨.hbm, 596, rfl⟩
abbrev main_v428 : Ref sig .tc := ⟨.hbm, 597, rfl⟩
abbrev main_c_129 : Ref sig .tc := ⟨.hbm, 598, rfl⟩
abbrev main_v429 : Ref sig .tc := ⟨.hbm, 599, rfl⟩
abbrev main_v430 : Ref sig .tc := ⟨.hbm, 600, rfl⟩
abbrev main_c_130 : Ref sig .tc := ⟨.hbm, 601, rfl⟩
abbrev main_v431 : Ref sig .tc := ⟨.hbm, 602, rfl⟩
abbrev main_v432 : Ref sig .tc := ⟨.hbm, 603, rfl⟩
abbrev main_v433 : Ref sig .tc := ⟨.hbm, 604, rfl⟩
abbrev main_c_131 : Ref sig .tc := ⟨.hbm, 605, rfl⟩
abbrev main_v434 : Ref sig .tc := ⟨.hbm, 606, rfl⟩
abbrev main_v435 : Ref sig .tc := ⟨.hbm, 607, rfl⟩
abbrev main_c_132 : Ref sig .tc := ⟨.hbm, 608, rfl⟩
abbrev main_v436 : Ref sig .tc := ⟨.hbm, 609, rfl⟩
abbrev main_v437 : Ref sig .tc := ⟨.hbm, 610, rfl⟩
abbrev main_v438 : Ref sig .tc := ⟨.hbm, 611, rfl⟩
abbrev main_v439 : Ref sig .tc := ⟨.hbm, 612, rfl⟩
abbrev main_v440 : Ref sig .tc := ⟨.hbm, 613, rfl⟩
abbrev main_c_133 : Ref sig .tc := ⟨.hbm, 614, rfl⟩
abbrev main_v441 : Ref sig .tc := ⟨.hbm, 615, rfl⟩
abbrev main_v442 : Ref sig .tc := ⟨.hbm, 616, rfl⟩
abbrev main_c_134 : Ref sig .tc := ⟨.hbm, 617, rfl⟩
abbrev main_v443 : Ref sig .tc := ⟨.hbm, 618, rfl⟩
abbrev main_v444 : Ref sig .tc := ⟨.hbm, 619, rfl⟩
abbrev main_v445 : Ref sig .tc := ⟨.hbm, 620, rfl⟩
abbrev main_v446 : Ref sig .tc := ⟨.hbm, 621, rfl⟩
abbrev main_v447 : Ref sig .tc := ⟨.hbm, 622, rfl⟩
abbrev main_c_135 : Ref sig .tc := ⟨.hbm, 623, rfl⟩
abbrev main_v448 : Ref sig .tc := ⟨.hbm, 624, rfl⟩
abbrev main_v449 : Ref sig .tc := ⟨.hbm, 625, rfl⟩
abbrev main_c_136 : Ref sig .tc := ⟨.hbm, 626, rfl⟩
abbrev main_v450 : Ref sig .tc := ⟨.hbm, 627, rfl⟩
abbrev main_v451 : Ref sig .tc := ⟨.hbm, 628, rfl⟩
abbrev main_v452 : Ref sig .tc := ⟨.hbm, 629, rfl⟩
abbrev main_v453 : Ref sig .tc := ⟨.hbm, 630, rfl⟩
abbrev main_v454 : Ref sig .tc := ⟨.hbm, 631, rfl⟩
abbrev main_c_137 : Ref sig .tc := ⟨.hbm, 632, rfl⟩
abbrev main_v455 : Ref sig .tc := ⟨.hbm, 633, rfl⟩
abbrev main_v456 : Ref sig .tc := ⟨.hbm, 634, rfl⟩
abbrev main_c_138 : Ref sig .tc := ⟨.hbm, 635, rfl⟩
abbrev main_v457 : Ref sig .tc := ⟨.hbm, 636, rfl⟩
abbrev main_v458 : Ref sig .tc := ⟨.hbm, 637, rfl⟩
abbrev main_v459 : Ref sig .tc := ⟨.hbm, 638, rfl⟩
abbrev main_v460 : Ref sig .tc := ⟨.hbm, 639, rfl⟩
abbrev main_c_139 : Ref sig .tc := ⟨.hbm, 640, rfl⟩
abbrev main_v461 : Ref sig .tc := ⟨.hbm, 641, rfl⟩
abbrev main_v462 : Ref sig .tc := ⟨.hbm, 642, rfl⟩
abbrev main_c_140 : Ref sig .tc := ⟨.hbm, 643, rfl⟩
abbrev main_v463 : Ref sig .tc := ⟨.hbm, 644, rfl⟩
abbrev main_v464 : Ref sig .tc := ⟨.hbm, 645, rfl⟩
abbrev main_c_141 : Ref sig .tc := ⟨.hbm, 646, rfl⟩
abbrev main_v465 : Ref sig .tc := ⟨.hbm, 647, rfl⟩
abbrev main_v466 : Ref sig .tc := ⟨.hbm, 648, rfl⟩
abbrev main_v467 : Ref sig .tc := ⟨.hbm, 649, rfl⟩
abbrev main_c_142 : Ref sig .tc := ⟨.hbm, 650, rfl⟩
abbrev main_v468 : Ref sig .tc := ⟨.hbm, 651, rfl⟩
abbrev main_v469 : Ref sig .tc := ⟨.hbm, 652, rfl⟩
abbrev main_c_143 : Ref sig .tc := ⟨.hbm, 653, rfl⟩
abbrev main_v470 : Ref sig .tc := ⟨.hbm, 654, rfl⟩
abbrev main_v471 : Ref sig .tc := ⟨.hbm, 655, rfl⟩
abbrev main_v472 : Ref sig .tc := ⟨.hbm, 656, rfl⟩
abbrev main_cst_144 : Ref sig .tc := ⟨.hbm, 657, rfl⟩
abbrev main_v473 : Ref sig .tc := ⟨.hbm, 658, rfl⟩
abbrev main_v474 : Ref sig .tc := ⟨.hbm, 659, rfl⟩
abbrev main_cst_145 : Ref sig .tc := ⟨.hbm, 660, rfl⟩
abbrev main_v475 : Ref sig .tc := ⟨.hbm, 661, rfl⟩
abbrev main_v476 : Ref sig .tc := ⟨.hbm, 662, rfl⟩
abbrev main_cst_146 : Ref sig .tc := ⟨.hbm, 663, rfl⟩
abbrev main_v477 : Ref sig .tc := ⟨.hbm, 664, rfl⟩
abbrev main_v478 : Ref sig .tc := ⟨.hbm, 665, rfl⟩
abbrev main_cst_147 : Ref sig .tc := ⟨.hbm, 666, rfl⟩
abbrev main_v479 : Ref sig .tc := ⟨.hbm, 667, rfl⟩
abbrev main_v480 : Ref sig .tc := ⟨.hbm, 668, rfl⟩
abbrev main_cst_148 : Ref sig .tc := ⟨.hbm, 669, rfl⟩
abbrev main_v481 : Ref sig .tc := ⟨.hbm, 670, rfl⟩
abbrev main_v482 : Ref sig .tc := ⟨.hbm, 671, rfl⟩
abbrev main_cst_149 : Ref sig .tc := ⟨.hbm, 672, rfl⟩
abbrev main_v483 : Ref sig .tc := ⟨.hbm, 673, rfl⟩
abbrev main_v484 : Ref sig .tc := ⟨.hbm, 674, rfl⟩
abbrev main_v485 : Ref sig .tc := ⟨.hbm, 675, rfl⟩
abbrev main_cst_150 : Ref sig .tc := ⟨.hbm, 676, rfl⟩
abbrev main_v486 : Ref sig .tc := ⟨.hbm, 677, rfl⟩
abbrev main_v487 : Ref sig .tc := ⟨.hbm, 678, rfl⟩
abbrev main_v488 : Ref sig .tc := ⟨.hbm, 679, rfl⟩
abbrev main_v489 : Ref sig .tc := ⟨.hbm, 680, rfl⟩
abbrev main_v490 : Ref sig .tc := ⟨.hbm, 681, rfl⟩
abbrev main_v491 : Ref sig .tc := ⟨.hbm, 682, rfl⟩
abbrev main_cst_151 : Ref sig .tc := ⟨.hbm, 683, rfl⟩
abbrev main_v492 : Ref sig .tc := ⟨.hbm, 684, rfl⟩
abbrev main_v493 : Ref sig .tc := ⟨.hbm, 685, rfl⟩
abbrev main_v494 : Ref sig .tc := ⟨.hbm, 686, rfl⟩
abbrev main_v495 : Ref sig .tc := ⟨.hbm, 687, rfl⟩
abbrev main_v496 : Ref sig .tc := ⟨.hbm, 688, rfl⟩
abbrev main_v497 : Ref sig .tc := ⟨.hbm, 689, rfl⟩
abbrev main_v498 : Ref sig .tc := ⟨.hbm, 690, rfl⟩
abbrev main_v499 : Ref sig .tc := ⟨.hbm, 691, rfl⟩
abbrev main_v500 : Ref sig .tc := ⟨.hbm, 692, rfl⟩
abbrev main_v501 : Ref sig .tc := ⟨.hbm, 693, rfl⟩
abbrev main_cst_152 : Ref sig .tc := ⟨.hbm, 694, rfl⟩
abbrev main_v502 : Ref sig .tc := ⟨.hbm, 695, rfl⟩
abbrev main_v503 : Ref sig .tc := ⟨.hbm, 696, rfl⟩
abbrev main_v504 : Ref sig .tc := ⟨.hbm, 697, rfl⟩
abbrev main_v505 : Ref sig .tc := ⟨.hbm, 698, rfl⟩
abbrev main_cst_153 : Ref sig .tc := ⟨.hbm, 699, rfl⟩
abbrev main_v506 : Ref sig .tc := ⟨.hbm, 700, rfl⟩
abbrev main_v507 : Ref sig .tc := ⟨.hbm, 701, rfl⟩
abbrev main_cst_154 : Ref sig .tc := ⟨.hbm, 702, rfl⟩
abbrev main_v508 : Ref sig .tc := ⟨.hbm, 703, rfl⟩
abbrev main_v509 : Ref sig .tc := ⟨.hbm, 704, rfl⟩
abbrev main_v510 : Ref sig .tc := ⟨.hbm, 705, rfl⟩
abbrev main_c_155 : Ref sig .tc := ⟨.hbm, 706, rfl⟩
abbrev main_call8_v0 : Ref sig .tc := ⟨.hbm, 707, rfl⟩
abbrev main_v511 : Ref sig .tc := ⟨.hbm, 708, rfl⟩

abbrev nD : Nat := 1
abbrev τ : Topo := Topo.v7x

variable {F : FTy → Type} [FloatOps F]
-- ==== Proof.KRun.lean ====
/- The run of the idealized kernel program, with every buffer's final contents named: the contents at the last segment
   boundary. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution of the kernel program terminates, and every final state holds, in every buffer of the
    TensorCore, the contents at the last segment boundary. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- Both results and the three arguments after the run: each result is what region 1's write-backs leave of its array. -/
theorem run_results : θ_run defs (onTc (τ := τ) (main (F := F))) ⟨m, fun _ => 0, ρ⟩ (fun r => ∀ c : Dev nD,
      r.2.mem ((c.tc : Thread nD τ).loc main_v21_0) = (dat1 (V2 m ρ) c).arrAt 5 cfg1.N
      ∧ r.2.mem ((c.tc : Thread nD τ).loc main_v21_1) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v21_0 (by decide))).trans (W3_arr m ρ c 5),
     (h c _ (mem_uc main_v21_1 (by decide))).trans (W3_arr m ρ c 6),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_boundary m ρ)

end Cert.KernelIdeal.Gen

end
-- ==== Proof.Ranks.lean ====
/- Stable sorting by a key and the rank it gives every position: the number of positions whose key is smaller, or equal at an
   earlier position. -/
module

public import Idealize.ShloMosaic.Lib.SortFacts
public import Mathlib.Order.Fin.Basic
public import Mathlib.Data.Fintype.Card
public import Mathlib.Order.Interval.Finset.Fin

@[expose] public section

namespace Cert.Ranks

open Idealize.ShloMosaic

variable {n : Nat} {α : Type} [LinearOrder α]

/-- Position `a` comes before position `b` in a stable sort by `f`: by the key, ties by the position. -/
def Precedes (f : Fin n → α) (a b : Fin n) : Prop := f a < f b ∨ (f a = f b ∧ a < b)

theorem Precedes.trans {f : Fin n → α} {a b c : Fin n} (h : Precedes f a b) (h' : Precedes f b c) : Precedes f a c := by
  rcases h with h | ⟨h, h1⟩ <;> rcases h' with h' | ⟨h', h2⟩
  · exact Or.inl (h.trans h')
  · exact Or.inl (h'▸ h)
  · exact Or.inl (h ▸ h')
  · exact Or.inr ⟨h.trans h', h1.trans h2⟩

theorem Precedes.irrefl {f : Fin n → α} (a : Fin n) : ¬ Precedes f a a := by
  rintro (h | ⟨_, h⟩) <;> exact lt_irrefl _ h

/-- The comparison "strictly smaller key" as the sort takes it. -/
def keyLt (f : Fin n → α) (a b : Fin n) : Bool := decide (f a < f b)

/-- Inserting a position that is earlier than every listed one keeps a list in order. -/
theorem pairwise_insert (f : Fin n → α) (a : Fin n) (l : List (Fin n)) (hl : l.Pairwise (Precedes f)) (ha : ∀ b ∈ l, a < b) :
    (insertBefore (keyLt f) a l).Pairwise (Precedes f) := by
  induction l with
  | nil => exact List.pairwise_singleton _ _
  | cons b l ih =>
    rw [List.pairwise_cons] at hl
    unfold insertBefore
    split
    · rename_i h
      have hba : f b < f a := by simpa [keyLt] using h
      refine List.pairwise_cons.2 ⟨fun c hc => ?_, ih hl.2 fun c hc => ha c (List.mem_cons_of_mem _ hc)⟩
      rcases List.mem_cons.1 ((perm_insertBefore (keyLt f) a l).mem_iff.1 hc) with rfl | hc
      · exact Or.inl hba
      · exact hl.1 c hc
    · rename_i h
      have hab : f a ≤ f b := by simpa [keyLt] using h
      have hp : Precedes f a b := hab.lt_or_eq.imp id fun e => ⟨e, ha b List.mem_cons_self⟩
      refine List.pairwise_cons.2 ⟨fun c hc => ?_, List.pairwise_cons.2 hl⟩
      rcases List.mem_cons.1 hc with rfl | hc
      · exact hp
      · exact hp.trans (hl.1 c hc)

theorem pairwise_sort (f : Fin n → α) (l : List (Fin n)) (hl : l.Pairwise (· < ·)) :
    (stableSort (keyLt f) l).Pairwise (Precedes f) := by
  induction l with
  | nil => exact List.Pairwise.nil
  | cons a l ih =>
    rw [List.pairwise_cons] at hl
    unfold stableSort
    exact pairwise_insert f a _ (ih hl.2) fun b hb => hl.1 b ((perm_stableSort (keyLt f) l).mem_iff.1 hb)

/-- The sort puts positions in the order of `Precedes`. -/
theorem sortedFrom_lt (f : Fin n → α) {i j : Fin n} (hij : i < j) :
    Precedes f (sortedFrom (keyLt f) i) (sortedFrom (keyLt f) j) := by
  have h := List.pairwise_iff_get.1 (pairwise_sort f (List.finRange n) (List.pairwise_lt_finRange n))
  exact h (i.cast (length_sortPositions n (keyLt f)).symm) (j.cast (length_sortPositions n (keyLt f)).symm) hij

theorem sortedFrom_lt_iff (f : Fin n → α) (i j : Fin n) :
    Precedes f (sortedFrom (keyLt f) i) (sortedFrom (keyLt f) j) ↔ i < j := by
  refine ⟨fun h => ?_, sortedFrom_lt f⟩
  rcases lt_trichotomy i j with h' | rfl | h'
  · exact h'
  · exact absurd h (Precedes.irrefl _)
  · exact absurd (h.trans (sortedFrom_lt f h')) (Precedes.irrefl _)

open Classical in
/-- The rank of a position: how many come before it. -/
noncomputable def rank (f : Fin n → α) (j : Fin n) : Nat := (Finset.univ.filter fun i => Precedes f i j).card

/-- The position sorted to place `k` has rank `k`. -/
theorem rank_sortedFrom (f : Fin n → α) (k : Fin n) : rank f (sortedFrom (keyLt f) k) = k.val := by
  classical
  unfold rank
  have hb : Function.Bijective (sortedFrom (keyLt f)) := ⟨sortedFrom_injective _, sortedFrom_surjective _⟩
  have : (Finset.univ.filter fun i => Precedes f i (sortedFrom (keyLt f) k))
      = (Finset.Iio k).map ⟨sortedFrom (keyLt f), sortedFrom_injective _⟩ := by
    ext i
    obtain ⟨i, rfl⟩ := hb.2 i
    simp only [Finset.mem_filter, Finset.mem_univ, true_and, Finset.mem_map, Finset.mem_Iio, Function.Embedding.coeFn_mk]
    rw [sortedFrom_lt_iff]
    exact ⟨fun h => ⟨i, h, rfl⟩, fun ⟨j, h, e⟩ => hb.1 e ▸ h⟩
  rw [this, Finset.card_map, Fin.card_Iio]

theorem rank_lt (f : Fin n → α) (j : Fin n) : rank f j < n := by
  obtain ⟨k, rfl⟩ := sortedFrom_surjective (keyLt f) j
  rw [rank_sortedFrom]; exact k.isLt

/-- The position of rank `rank f j` is `j`. -/
theorem sortedFrom_rank (f : Fin n → α) (j : Fin n) : sortedFrom (keyLt f) ⟨rank f j, rank_lt f j⟩ = j := by
  obtain ⟨k, rfl⟩ := sortedFrom_surjective (keyLt f) j
  exact congrArg _ (Fin.ext (rank_sortedFrom f k))

/-- Sorting a second time, by the numbers the first sort gave, inverts the first sort: place `j` of the second sort holds the
    rank of position `j`. -/
theorem sortedFrom_sortedFrom (f : Fin n → α) (g : Fin n → Fin n) (hg : g = sortedFrom (keyLt f)) (j : Fin n) :
    sortedFrom (keyLt g) j = ⟨rank f j, rank_lt f j⟩ := by
  have hgi : Function.Injective g := hg ▸ sortedFrom_injective _
  -- the keys along the second sort strictly ascend, so they are the positions themselves
  have hm : StrictMono fun k => g (sortedFrom (keyLt g) k) := fun a b hab => by
    rcases sortedFrom_lt g hab with h | ⟨h, _⟩
    · exact h
    · exact absurd (sortedFrom_injective _ (hgi h)) (ne_of_lt hab)
  have hid : ∀ k, g (sortedFrom (keyLt g) k) = k := by
    have hs : Function.Surjective fun k => g (sortedFrom (keyLt g) k) :=
      (Finite.injective_iff_surjective).1 hm.injective
    intro k
    have : (hm.orderIsoOfSurjective _ hs) = OrderIso.refl (Fin n) := Subsingleton.elim _ _
    exact congrArg (fun e : Fin n ≃o Fin n => e k) this
  apply hgi
  rw [hid j, hg, sortedFrom_rank]

end Cert.Ranks
-- ==== Proof.Gathers.lean ====
/- The reference's gathers, read at an index whose start index is a small word. -/
module

public import proofs.«01_k».proof.Proof.Gen.ReferenceIdeal.Read
public import Idealize.ShloMosaic.Lib.Pointwise
public import Idealize.ShloMosaic.Lib.ValueIdxCore
public import Idealize.ShloMosaic.Lib.Routing.Ops

@[expose] public section

set_option maxRecDepth 16384

noncomputable section

namespace Cert.ReferenceIdeal.Stages

open Idealize.ShloMosaic hiding ix0 ix1 ix2 ix3 eq_ix1 eq_ix2 eq_ix3
open Idealize.ShloMosaic.ValueIdx Cert.ReferenceIdeal

/-- A small word, read as a signed number and held below a bound it respects, is its number. -/
theorem clamp_small (k n : ℕ) (hk : k ≤ n) (hn : n < 2 ^ 31) : min (BitVec.ofNat 32 k).toInt.toNat n = k := by
  rw [StableHlo.Predicate.toInt_ofNat_small k (by omega)]
  omega

/-- The dimension numbers of the three gathers. -/
abbrev rowPick := gather_S16x1024_S16x1024x1_S16x1024_n_1_0_0_1_2_11
abbrev drawPick := gather_S16x523776_S1024x1024x1_S16x1024x1024_0_1_n_n_1_2_161
abbrev lastPick := gather_S16x1024x1024_S16x1024x1024x1_S16x1024x1024_n_2_01_01_2_3_111

variable {α : Type}

/-- One row's pick along the second axis. -/
theorem pick2 (x : S16x1024.Idx → α) (si : IVec S16x1024x1 32) (b : Fin 16) (j k : Fin 1024)
    (h : si (ix3 b j (0 : Fin 1)) = BitVec.ofNat 32 k.val) :
    Host.gather rowPick x si (ix2 b j) = x (ix2 b k) := by
  unfold Host.gather
  congr 1
  funext a
  refine Fin.ext ?_
  show rowPick.start (ix2 b j) si a
    + rowPick.batchCoord (ix2 b j) a
    + rowPick.offCoord (ix2 b j) a = _
  have axes : a = 0 ∨ a = 1 := by
    match a with
    | ⟨0, _⟩ => exact Or.inl rfl
    | ⟨1, _⟩ => exact Or.inr rfl
  rcases axes with rfl | rfl
  ·
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ rowPick.operandBatchingDims from List.mem_singleton.mpr rfl)]
    rfl
  ·
    rw [GatherDims.batchCoord_eq_zero _ _ _ (fun h => absurd h (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ rowPick.startIndexMap from List.mem_singleton.mpr rfl)]
    have hsi : rowPick.siIdx (ix2 b j)
        ⟨List.idxOf (1 : Fin 2) rowPick.startIndexMap,
        List.idxOf_lt_length_iff.2 (List.mem_singleton.mpr rfl)⟩ = ix3 b j (0 : Fin 1) := by
      funext c
      refine Fin.ext ?_
      match c with
      | ⟨0, _⟩ => rfl
      | ⟨1, _⟩ => rfl
      | ⟨2, _⟩ => rfl
    refine (congrArg (fun w : BitVec 32 => min w.toInt.toNat 1023) ((congrArg si hsi).trans h)).trans ?_
    exact clamp_small k.val 1023 (by omega) (by decide)

/-- A table of numbers' pick along the second axis, all rows at once. -/
theorem pickDraw (x : S16x523776.Idx → α) (si : IVec S1024x1024x1 32) (b : Fin 16) (p q : Fin 1024) (k : Fin 523776)
    (h : si (ix3 p q (0 : Fin 1)) = BitVec.ofNat 32 k.val) :
    Host.gather drawPick x si (ix3 b p q) = x (ix2 b k) := by
  unfold Host.gather
  congr 1
  funext a
  refine Fin.ext ?_
  show drawPick.start (ix3 b p q) si a
    + drawPick.batchCoord (ix3 b p q) a
    + drawPick.offCoord (ix3 b p q) a = _
  have axes : a = 0 ∨ a = 1 := by
    match a with
    | ⟨0, _⟩ => exact Or.inl rfl
    | ⟨1, _⟩ => exact Or.inr rfl
  rcases axes with rfl | rfl
  ·
    rw [GatherDims.batchCoord_eq_zero _ _ _ List.not_mem_nil]
    unfold GatherDims.start
    rw [dif_neg (fun h => absurd h (by decide))]
    simp only [Nat.zero_add, Nat.add_zero]
    unfold GatherDims.offCoord
    rw [dif_pos (show (0 : Fin 2) ∈ drawPick.sKept by decide)]
    rfl
  ·
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ drawPick.startIndexMap from List.mem_singleton.mpr rfl)]
    have hsi : drawPick.siIdx (ix3 b p q)
        ⟨List.idxOf (1 : Fin 2) drawPick.startIndexMap,
        List.idxOf_lt_length_iff.2 (List.mem_singleton.mpr rfl)⟩ = ix3 p q (0 : Fin 1) := by
      funext c
      refine Fin.ext ?_
      match c with
      | ⟨0, _⟩ => rfl
      | ⟨1, _⟩ => rfl
      | ⟨2, _⟩ => rfl
    refine (congrArg (fun w : BitVec 32 => min w.toInt.toNat 523775) ((congrArg si hsi).trans h)).trans ?_
    exact clamp_small k.val 523775 (by omega) (by decide)

/-- A pick along the last axis of a stack of squares. -/
theorem pick3 (x : S16x1024x1024.Idx → α) (si : IVec S16x1024x1024x1 32) (b : Fin 16) (i j k : Fin 1024)
    (h : si (fun a => match a with | ⟨0, _⟩ => b | ⟨1, _⟩ => i | ⟨2, _⟩ => j | ⟨3, _⟩ => (0 : Fin 1))
      = BitVec.ofNat 32 k.val) :
    Host.gather lastPick x si (ix3 b i j)
      = x (ix3 b i k) := by
  unfold Host.gather
  congr 1
  funext a
  refine Fin.ext ?_
  show lastPick.start (ix3 b i j) si a
    + lastPick.batchCoord (ix3 b i j) a
    + lastPick.offCoord (ix3 b i j) a = _
  have batched : ∀ (c : Fin 3) (hc : c ∈ lastPick.operandBatchingDims),
      lastPick.start (ix3 b i j) si c
      + lastPick.batchCoord (ix3 b i j) c
      + lastPick.offCoord (ix3 b i j) c
      = lastPick.batchCoord (ix3 b i j) c := by
    intro c hc
    rw [GatherDims.start_batching _ _ _ _ hc,
      GatherDims.offCoord_eq_zero _ _ _ (fun h => ((GatherDims.mem_sKept _ _).mp h).2 hc)]
    simp only [Nat.zero_add, Nat.add_zero]
  have axes : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases axes with rfl | rfl | rfl
  ·
    refine (batched 0 (by decide)).trans ?_
    unfold GatherDims.batchCoord
    rw [dif_pos (show (0 : Fin 3) ∈ lastPick.operandBatchingDims by decide)]
    rfl
  ·
    refine (batched 1 (by decide)).trans ?_
    unfold GatherDims.batchCoord
    rw [dif_pos (show (1 : Fin 3) ∈ lastPick.operandBatchingDims by decide)]
    rfl
  ·
    rw [GatherDims.batchCoord_eq_zero _ _ _ (fun h => absurd h (by decide)),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ lastPick.startIndexMap from List.mem_singleton.mpr rfl)]
    have hsi : lastPick.siIdx (ix3 b i j)
        ⟨List.idxOf (2 : Fin 3) lastPick.startIndexMap,
        List.idxOf_lt_length_iff.2 (List.mem_singleton.mpr rfl)⟩
        = fun a => match a with | ⟨0, _⟩ => b | ⟨1, _⟩ => i | ⟨2, _⟩ => j | ⟨3, _⟩ => (0 : Fin 1) := by
      funext c
      refine Fin.ext ?_
      match c with
      | ⟨0, _⟩ => rfl
      | ⟨1, _⟩ => rfl
      | ⟨2, _⟩ => rfl
      | ⟨3, _⟩ => rfl
    refine (congrArg (fun w : BitVec 32 => min w.toInt.toNat 1023) ((congrArg si hsi).trans h)).trans ?_
    exact clamp_small k.val 1023 (by omega) (by decide)

end Cert.ReferenceIdeal.Stages

end
-- ==== Proof.Words.lean ====
/- Threefry-2x32 on one pair of words: the scalar function that both programs' integer operations compute at each index. -/
module

public import Idealize.ShloMosaic.PureOps.Vector

@[expose] public section

noncomputable section

namespace Cert.Words

open Idealize.ShloMosaic

/-- A 32-bit word. -/
abbrev W := BitVec 32

/-- One round as the kernel's vector unit computes it: the sum, and the second word rotated, xor the sum. -/
def mixV (l r : W) (s : W × W) : W × W :=
  (IntOp.addi s.1 s.2, IntOp.xori (IntOp.ori (IntOp.shli .vector s.2 l) (IntOp.shrui .vector s.2 r)) (IntOp.addi s.1 s.2))

/-- One round as the host computes it: the same with the xor's operands exchanged. -/
def mixH (l r : W) (s : W × W) : W × W :=
  (IntOp.addi s.1 s.2, IntOp.xori (IntOp.addi s.1 s.2) (IntOp.ori (IntOp.shli .host s.2 l) (IntOp.shrui .host s.2 r)))

/-- Four rounds with the first rotations. -/
def four (mix : W → W → W × W → W × W) (s : W × W) : W × W :=
  mix 6#32 26#32 (mix 26#32 6#32 (mix 15#32 17#32 (mix 13#32 19#32 s)))

/-- Four rounds with the second rotations. -/
def four' (mix : W → W → W × W → W × W) (s : W × W) : W × W :=
  mix 24#32 8#32 (mix 16#32 16#32 (mix 29#32 3#32 (mix 17#32 15#32 s)))

/-- The key words `k0`, `k1` and the group's number added. -/
def key (k0 k1 n : W) (s : W × W) : W × W := (IntOp.addi s.1 k0, IntOp.addi (IntOp.addi s.2 k1) n)

/-- All twenty rounds with key words `0`, `a` and their parity word `p`, from the first word `x` and the second word `y`. -/
def twenty (mix : W → W → W × W → W × W) (a p : W) (s : W × W) : W × W :=
  key p 0#32 5#32 (four mix (key a p 4#32 (four' mix (key 0#32 a 3#32 (four mix (key p 0#32 2#32 (four' mix
    (key a p 1#32 (four mix s)))))))))

theorem mixV_eq (l r : W) (hl : l.toNat < 32) (hr : r.toNat < 32) : mixV l r = mixH l r := by
  funext s
  unfold mixV mixH IntOp.shli IntOp.shrui
  rw [if_pos hl, if_pos hr, if_pos hl, if_pos hr]
  exact congrArg _ (BitVec.xor_comm _ _)

/-- Both forms of the round give the same twenty rounds. -/
theorem twenty_mixV (a p : W) : twenty mixV a p = twenty mixH a p := by
  have h (l r : W) (hl : l.toNat < 32) (hr : r.toNat < 32) := mixV_eq l r hl hr
  have h1 : four mixV = four mixH := by
    funext s; unfold four
    rw [h 6#32 26#32 (by decide) (by decide), h 26#32 6#32 (by decide) (by decide), h 15#32 17#32 (by decide) (by decide),
      h 13#32 19#32 (by decide) (by decide)]
  have h2 : four' mixV = four' mixH := by
    funext s; unfold four'
    rw [h 24#32 8#32 (by decide) (by decide), h 16#32 16#32 (by decide) (by decide), h 29#32 3#32 (by decide) (by decide),
      h 17#32 15#32 (by decide) (by decide)]
  funext s; unfold twenty; rw [h1, h2]

end Cert.Words

end
-- ==== Proof.Scalars.lean ====
/- The scalar functions both programs compute at each element — the uniform draw from a word, the log-odds of a log-probability,
   and the relaxed Bernoulli sample — in the kernel's form and in the host's form, and that the two forms agree over the extended
   reals. -/
module

public import proofs.«01_k».proof.Proof.Words
public import Idealize.ShloMosaic.PureOps.Ideal.Laws

@[expose] public section

set_option maxRecDepth 16384

noncomputable section

namespace Cert.Scalars

open Idealize.ShloMosaic Cert.Words

section Forms

variable {F : FTy → Type} [FloatOps F]

/-- The draw in the open unit interval from the two words: their xor's top 23 bits as a fraction, scaled and clamped below. -/
def draw (u : ArithUnit) (s : W × W) : F .f32 :=
  let lo : F .f32 := FloatOps.ofBits .f32 0x358637BD#32
  FloatOps.maximumf lo (FloatOps.addf (FloatOps.mulf (FloatOps.subf
    (FloatOps.ofBits .f32 (IntOp.ori (IntOp.shrui u (IntOp.xori s.1 s.2) 9#32) 1065353216#32))
    (FloatOps.ofBits .f32 0x3F800000#32)) (FloatOps.ofBits .f32 0x3F7FFFDE#32)) lo)

/-- The log-probability of a pair at squared distance `d2`, the kernel's order of factors. -/
def logpK (d2 sc : F .f32) : F .f32 := FloatOps.divf (FloatOps.mulf d2 (FloatOps.ofBits .f32 0xBF000000#32)) sc

/-- The log-probability of a pair at squared distance `d2`, the host's order of factors. -/
def logpR (d2 sc : F .f32) : F .f32 := FloatOps.hostDivf (FloatOps.mulf (FloatOps.ofBits .f32 0xBF000000#32) d2) sc

/-- The log-odds in the kernel's form: `e^y - 1` as `(e^y - 1) y / log (e^y)`. -/
def logitK (x : F .f32) : F .f32 :=
  let c : F .f32 := FloatOps.ofBits .f32 0xBF317218#32
  let one : F .f32 := FloatOps.ofBits .f32 0x3F800000#32
  let zero : F .f32 := FloatOps.ofBits .f32 0x00000000#32
  let pos := FloatOps.maximumf x c
  let neg := FloatOps.minimumf x c
  let y := FloatOps.exp (FloatOps.subf zero pos)
  let em := Scalar.select (FloatOps.cmpf .oeq (FloatOps.subf y one) zero) (FloatOps.subf zero pos)
    (FloatOps.divf (FloatOps.mulf (FloatOps.subf y one) (FloatOps.subf zero pos)) (FloatOps.log y))
  FloatOps.addf (FloatOps.subf zero (FloatOps.log (FloatOps.maximumf em (FloatOps.ofBits .f32 0x1E3CE508#32))))
    (FloatOps.subf neg (FloatOps.log (FloatOps.subf one (FloatOps.exp neg))))

/-- The log-odds in the host's form, with the host's `e^y - 1`. -/
def logitR (x : F .f32) : F .f32 :=
  let c : F .f32 := FloatOps.ofBits .f32 0xBF317218#32
  let one : F .f32 := FloatOps.ofBits .f32 0x3F800000#32
  let pos := FloatOps.maximumf x c
  let neg := FloatOps.minimumf x c
  FloatOps.addf (FloatOps.hostNegf (FloatOps.hostUnary .log (FloatOps.maximumf (FloatOps.hostUnary .expm1 (FloatOps.hostNegf pos))
      (FloatOps.ofBits .f32 0x1E3CE508#32))))
    (FloatOps.subf neg (FloatOps.hostUnary .log (FloatOps.subf one (FloatOps.hostUnary .exp neg))))

/-- The sample at draw `u` and log-odds `l`, the kernel's form. -/
def sampleK (u l : F .f32) : F .f32 :=
  let one : F .f32 := FloatOps.ofBits .f32 0x3F800000#32
  FloatOps.logistic (FloatOps.divf (FloatOps.addf (FloatOps.subf (FloatOps.log u) (FloatOps.log (FloatOps.subf one u))) l)
    (FloatOps.ofBits .f32 0x3E99999A#32))

/-- The sample at draw `u` and log-odds `l`, the host's form. -/
def sampleR (u l : F .f32) : F .f32 :=
  let one : F .f32 := FloatOps.ofBits .f32 0x3F800000#32
  FloatOps.hostDivf one (FloatOps.addf one (FloatOps.hostUnary .exp (FloatOps.hostNegf (FloatOps.hostDivf (FloatOps.addf
    (FloatOps.subf (FloatOps.hostUnary .log u) (FloatOps.hostUnary .log1p (FloatOps.hostNegf u))) l)
    (FloatOps.ofBits .f32 0x3E99999A#32)))))

end Forms

/-! ### The literals -/

theorem lit_zero : Ideal.ofBits .f32 0x00000000#32 = 0 := by
  simp [Ideal.ofBits, Ideal.ieee, -EReal.coe_mul]

theorem lit_one : Ideal.ofBits .f32 0x3F800000#32 = 1 := by
  simp [Ideal.ofBits, Ideal.ieee, -EReal.coe_mul]; norm_num

/-- The rounded `-log 2` is a finite number. -/
theorem lit_split : ∃ r : ℝ, Ideal.ofBits .f32 0xBF317218#32 = (r : EReal) := by
  have h : ∀ (c d : Prop) (_ : Decidable c) (_ : Decidable d) (x : EReal) (a b : ℝ), ¬c →
      ∃ r : ℝ, (if c then x else if d then (a : EReal) else (b : EReal)) = (r : EReal) := by
    intro c d _ _ x a b hc
    rw [if_neg hc]
    split
    · exact ⟨a, rfl⟩
    · exact ⟨b, rfl⟩
  unfold Ideal.ofBits Ideal.ieee
  dsimp only
  refine h _ _ _ _ _ _ _ ?_
  decide

/-- The floor under the exponential's argument is positive. -/
theorem lit_floor_pos : 0 < Ideal.ofBits .f32 0x1E3CE508#32 := by
  simp [Ideal.ofBits, Ideal.ieee, -EReal.coe_mul]

/-! ### The two forms agree -/

theorem draw_unit (s : W × W) : draw (F := Ideal) .vector s = draw .host s := by
  have h (x : W) : IntOp.shrui .vector x 9#32 = IntOp.shrui .host x 9#32 := by
    unfold IntOp.shrui; rw [if_pos (by decide), if_pos (by decide)]
  unfold draw; rw [h]

theorem logp_eq (d2 sc : EReal) : logpK (F := Ideal) d2 sc = logpR (F := Ideal) d2 sc := by
  show Ideal.div (d2 * _) sc = Ideal.div (_ * d2) sc
  rw [mul_comm]

/-- The kernel's `e^y - 1` at `y = -p`, floored, is the exact one, floored: they differ only at `p = ∞`, below the floor. -/
theorem floored_eq (p e : EReal) (hp : p ≠ ⊥) (he : 0 < e) :
    max (Scalar.select (Ideal.cmp .oeq (Ideal.exp (0 - p) - 1) 0) (0 - p)
      (Ideal.div ((Ideal.exp (0 - p) - 1) * (0 - p)) (Ideal.log (Ideal.exp (0 - p))))) e
    = max (Ideal.exp (-p) - 1) e := by
  induction p using EReal.rec with
  | bot => exact absurd rfl hp
  | top =>
    have h1 : (0 : EReal) - ⊤ = ⊥ := by simp
    have h2 : (-⊤ : EReal) = ⊥ := by simp
    rw [h1, h2]
    have h3 : Ideal.exp ⊥ = 0 := rfl
    have h4 : Ideal.log 0 = ⊥ := by
      show (if (0 : ℝ) ≤ 0 then (⊥ : EReal) else _) = ⊥
      simp
    rw [h3, h4]
    have h5 : (0 : EReal) - 1 ≠ 0 := by
      rw [zero_sub]; intro h
      have : (1 : EReal) = 0 := by rw [← neg_neg (1 : EReal), h, neg_zero]
      exact one_ne_zero this
    have h6 : (0 : EReal) - 1 ≤ 0 := by rw [zero_sub, EReal.neg_le, neg_zero]; exact zero_le_one
    have h7 : Ideal.cmp .oeq ((0 : EReal) - 1) 0 = 0#1 := by
      unfold Ideal.cmp; simp only [decide_eq_false h5]; rfl
    rw [h7]
    have h8 : Ideal.div (((0 : EReal) - 1) * ⊥) ⊥ = 0 := by
      unfold Ideal.div; rw [if_neg (by simp), EReal.inv_bot, mul_zero]
    rw [show Scalar.select 0#1 (⊥ : EReal) (Ideal.div (((0 : EReal) - 1) * ⊥) ⊥) = Ideal.div (((0 : EReal) - 1) * ⊥) ⊥ from rfl,
      h8, max_eq_right he.le, max_eq_right (h6.trans he.le)]
  | coe r =>
    have h1 : (0 : EReal) - (r : EReal) = ((-r : ℝ) : EReal) := by rw [zero_sub, EReal.coe_neg]
    have h2 : -(r : EReal) = ((-r : ℝ) : EReal) := (EReal.coe_neg r).symm
    rw [h1, h2]
    have h3 : Ideal.exp ((-r : ℝ) : EReal) = (Real.exp (-r) : EReal) := rfl
    rw [h3]
    have h4 : Ideal.log (Real.exp (-r) : EReal) = ((-r : ℝ) : EReal) := by
      show (if Real.exp (-r) ≤ 0 then (⊥ : EReal) else (Real.log (Real.exp (-r)) : EReal)) = _
      rw [if_neg (not_le.2 (Real.exp_pos _)), Real.log_exp]
    rw [h4]
    congr 1
    have h5 : (Real.exp (-r) : EReal) - 1 = ((Real.exp (-r) - 1 : ℝ) : EReal) := by
      rw [EReal.coe_sub, EReal.coe_one]
    rw [h5]
    by_cases hr : r = 0
    · subst hr
      simp [Scalar.select, Ideal.cmp]
    · have h6 : Real.exp (-r) - 1 ≠ 0 := by
        intro h
        have : Real.exp (-r) = 1 := by linarith
        rw [Real.exp_eq_one_iff] at this
        exact hr (neg_eq_zero.1 this)
      have h7 : Ideal.cmp .oeq ((Real.exp (-r) - 1 : ℝ) : EReal) 0 = 0#1 := by
        unfold Ideal.cmp
        have : ((Real.exp (-r) - 1 : ℝ) : EReal) ≠ 0 := by exact_mod_cast h6
        simp only [decide_eq_false this]; rfl
      rw [h7]
      show Ideal.div _ _ = _
      unfold Ideal.div
      have h8 : ((-r : ℝ) : EReal) ≠ 0 := by exact_mod_cast neg_ne_zero.2 hr
      rw [if_neg h8, ← EReal.coe_mul, ← EReal.coe_inv, ← EReal.coe_mul, mul_assoc, mul_inv_cancel₀ (neg_ne_zero.2 hr), mul_one]

theorem logit_eq (x : EReal) : logitK (F := Ideal) x = logitR (F := Ideal) x := by
  obtain ⟨r, hr⟩ := lit_split
  have hp : max x (Ideal.ofBits .f32 0xBF317218#32) ≠ ⊥ := by
    rw [hr]; exact ne_of_gt (lt_of_lt_of_le (EReal.bot_lt_coe r) (le_max_right _ _))
  have h := floored_eq _ _ hp lit_floor_pos
  -- the kernel's form with its literals `0` and `1` as variables
  have hK (z o : EReal) (hz : z = 0) (ho : o = 1) (p n : EReal) (e : EReal)
      (h : max (Scalar.select (Ideal.cmp .oeq (Ideal.exp (0 - p) - 1) 0) (0 - p)
        (Ideal.div ((Ideal.exp (0 - p) - 1) * (0 - p)) (Ideal.log (Ideal.exp (0 - p))))) e = max (Ideal.exp (-p) - 1) e) :
      (z - Ideal.log (max (Scalar.select (Ideal.cmp .oeq (Ideal.exp (z - p) - o) z) (z - p)
        (Ideal.div ((Ideal.exp (z - p) - o) * (z - p)) (Ideal.log (Ideal.exp (z - p))))) e)) + n
      = -Ideal.log (max (Ideal.exp (-p) - 1) e) + n := by
    rw [hz, ho, h, zero_sub]
  exact hK (Ideal.ofBits .f32 0x00000000#32) (Ideal.ofBits .f32 0x3F800000#32) lit_zero lit_one _ _ _ h

theorem sample_eq (u l : EReal) : sampleK (F := Ideal) u l = sampleR (F := Ideal) u l := by
  show Ideal.div 1 (1 + Ideal.exp (-(Ideal.div (Ideal.log u - Ideal.log (Ideal.ofBits .f32 0x3F800000#32 - u) + l) _)))
    = Ideal.div (Ideal.ofBits .f32 0x3F800000#32) (Ideal.ofBits .f32 0x3F800000#32
      + Ideal.exp (-(Ideal.div (Ideal.log u - Ideal.log (1 + -u) + l) _)))
  rw [lit_one, sub_eq_add_neg 1 u]

end Cert.Scalars

end
-- ==== Proof.GraphBlock.lean ====
/- The second kernel body's stored blocks, read at one element: the graph block at a row and a column, and the bipartite
   block. -/
module

public import proofs.«01_k».proof.Proof.Scalars
public import proofs.«01_k».proof.Proof.Gen.KernelIdeal.Skeleton
public import Idealize.ShloMosaic.Lib.ValueLayout
public import Idealize.ShloMosaic.Lib.Pointwise.ShapeOpsCore

@[expose] public section

set_option maxRecDepth 16384

noncomputable section

namespace Cert.KernelIdeal.Blocks

open Idealize.ShloMosaic hiding ix0 ix1 ix2 ix3
open Idealize.ShloMosaic.ValueIdx Cert.KernelIdeal Cert.KernelIdeal.Gen Cert.Words Cert.Scalars

/-- A column broadcast along rows reads its row's entry. -/
theorem broadcastTo_col {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => show (0 : ℕ) = if (1 : ℕ) = 1 then 0 else c.val; rfl

/-- A one-element array broadcast reads its element everywhere. -/
theorem broadcastTo_one {a b : ℕ} {α : Type} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => show (0 : ℕ) = if (1 : ℕ) = 1 then 0 else p.val; rfl
  | ⟨1, _⟩ => show (0 : ℕ) = if (1 : ℕ) = 1 then 0 else c.val; rfl

/-! ### The number of a pair -/

/-- Half of `p (p + 1)` as the kernel computes it: a signed division rounded down, `one` being the divisor's sign. -/
def halfBy (one p : W) : W :=
  let m := IntOp.muli p (IntOp.addi p 1#32)
  let q := IntOp.divsi .vector m 2#32
  let s := IntOp.subi ((IntOp.cmpi .sgt m 0#32).setWidth 32) ((IntOp.cmpi .slt m 0#32).setWidth 32)
  Scalar.select (IntOp.andi (IntOp.cmpi .ne s one) (IntOp.cmpi .ne (IntOp.remsi .vector m 2#32) 0#32)) (IntOp.subi q 1#32) q

/-- Half of `p (p + 1)` as the kernel computes it. -/
def halfWord (p : W) : W := halfBy 1#32 p

/-- The draw's counter of the pair of ranks `p`, `q` in batch `b`, the key's low word added: the word the kernel's Threefry starts
    from. -/
def pairWord (b p q : W) : W :=
  IntOp.addi (IntOp.addi (IntOp.muli b 523776#32)
    (IntOp.addi (IntOp.subi (IntOp.subi (IntOp.subi (IntOp.muli p 1024#32) (halfWord p)) p) 1#32) q)) 1#32

section AnyInstance

variable {F : FTy → Type} [FloatOps F]

/-- The rank column at a row. -/
theorem pay2_apply (v3 : Vec F S1x1x256 .i32) (r : Fin 256) (z : Fin 1) :
    k1_pay2 v3 (ix2 r z) = v3 (ix3 (0 : Fin 1) (0 : Fin 1) r) := by
  unfold k1_pay2
  have hz : z = 0 := by omega
  subst hz
  refine (transpose_ix2_apply _ _ r (0 : Fin 1)).trans ?_
  exact shapeCast_1ab_ab_apply _ _ (0 : Fin 1) r

/-- The rank row at a column. -/
theorem pay3_apply (v8 : Vec F S1x1x1024 .i32) (z : Fin 1) (j : Fin 1024) :
    k1_pay3 v8 (ix2 z j) = v8 (ix3 (0 : Fin 1) (0 : Fin 1) j) := by
  unfold k1_pay3
  have hz : z = 0 := by omega
  subst hz
  exact shapeCast_1ab_ab_apply _ _ (0 : Fin 1) j

/-- The log-probability block at an element. -/
theorem pay4_apply (v0 : Vec F S1x1x256 .f32) (v6 : Vec F S1x1x1024 .f32) (v10 : Vec F S1x1x1 .f32) (r : Fin 256) (j : Fin 1024) :
    k1_pay4 v0 v6 v10 (ix2 r j)
      = logpK (FloatOps.mulf (FloatOps.subf (v0 (ix3 (0 : Fin 1) (0 : Fin 1) r)) (v6 (ix3 (0 : Fin 1) (0 : Fin 1) j)))
          (FloatOps.subf (v0 (ix3 (0 : Fin 1) (0 : Fin 1) r)) (v6 (ix3 (0 : Fin 1) (0 : Fin 1) j))))
        (v10 (ix3 (0 : Fin 1) (0 : Fin 1) (0 : Fin 1))) := by
  have e12 : broadcastTo S256x1024 (transpose S256x1 [1, 0] (shapeCast S1x256 v0 shapeCasts_S1x1x256_S1x256)
      transposes_S1x256_p1_0_S256x1) broadcasts_S256x1_S256x1024 (ix2 r j) = v0 (ix3 (0 : Fin 1) (0 : Fin 1) r) :=
    (broadcastTo_col _ _ r j).trans ((transpose_ix2_apply _ _ r (0 : Fin 1)).trans (shapeCast_1ab_ab_apply _ _ (0 : Fin 1) r))
  have e13 : broadcastTo S256x1024 (shapeCast S1x1024 v6 shapeCasts_S1x1x1024_S1x1024) broadcasts_S1x1024_S256x1024 (ix2 r j)
      = v6 (ix3 (0 : Fin 1) (0 : Fin 1) j) :=
    (broadcastTo_1b_ab_apply _ _ r j).trans (shapeCast_1ab_ab_apply _ _ (0 : Fin 1) j)
  have e18 : broadcastTo S256x1024 (shapeCast S1x1 v10 shapeCasts_S1x1x1_S1x1) broadcasts_S1x1_S256x1024 (ix2 r j)
      = v10 (ix3 (0 : Fin 1) (0 : Fin 1) (0 : Fin 1)) :=
    (broadcastTo_one _ _ r j).trans (shapeCast_1ab_ab_apply _ _ (0 : Fin 1) (0 : Fin 1))
  rw [← e12, ← e13, ← e18]
  rfl

/-- The mask at an element. -/
theorem pay11_apply (v5 : IVec S256x1 32) (v9 : IVec S1x1024 32) (r : Fin 256) (j : Fin 1024) :
    k1_pay11 v5 v9 (ix2 r j) = IntOp.cmpi .slt (v5 (ix2 r (0 : Fin 1))) (v9 (ix2 (0 : Fin 1) j)) := by
  rw [← broadcastTo_col v5 broadcasts_S256x1_S256x1024 r j, ← broadcastTo_1b_ab_apply v9 broadcasts_S1x1024_S256x1024 r j]
  rfl

attribute [local irreducible] IntOp.addi IntOp.subi IntOp.muli IntOp.divsi IntOp.remsi IntOp.cmpi IntOp.andi IntOp.xori IntOp.ori
  IntOp.shli IntOp.shrui in
/-- The halved product at a row, the divisor's sign still as it is computed. -/
theorem pay13_by (v5 : IVec S256x1 32) (i : S256x1.Idx) :
    k1_pay13 v5 i = halfBy (Scalar.subi (Scalar.extui (Scalar.cmpi .sgt 2#32 0#32)) (Scalar.extui (Scalar.cmpi .slt 2#32 0#32)))
      (v5 i) := rfl

/-- The halved product at a row. -/
theorem pay13_apply (v5 : IVec S256x1 32) (i : S256x1.Idx) : k1_pay13 v5 i = halfWord (v5 i) := by
  rw [pay13_by, halfWord]
  exact congrArg (fun w => halfBy w (v5 i)) (by decide)

/-- The counter block at an element. -/
theorem pay14_apply (b : W) (v5 : IVec S256x1 32) (v9 : IVec S1x1024 32) (r : Fin 256) (j : Fin 1024) :
    k1_pay14 b v5 v9 (k1_pay12 v5) (k1_pay13 v5) (ix2 r j) = pairWord b (v5 (ix2 r (0 : Fin 1))) (v9 (ix2 (0 : Fin 1) j)) := by
  unfold pairWord
  rw [← pay13_apply v5 (ix2 r (0 : Fin 1))]
  rw [← broadcastTo_1b_ab_apply v9 broadcasts_S1x1024_S256x1024 r j]
  have e := broadcastTo_col (subi (subi (subi (k1_pay12 v5) (k1_pay13 v5)) v5) (broadcast S256x1 1#32))
    broadcasts_S256x1_S256x1024 r j
  have e' : subi (subi (subi (k1_pay12 v5) (k1_pay13 v5)) v5) (broadcast S256x1 1#32) (ix2 r (0 : Fin 1))
      = IntOp.subi (IntOp.subi (IntOp.subi (IntOp.muli (v5 (ix2 r (0 : Fin 1))) 1024#32) (k1_pay13 v5 (ix2 r (0 : Fin 1))))
          (v5 (ix2 r (0 : Fin 1)))) 1#32 := rfl
  rw [← e', ← e]
  rfl

/-- One entry of the graph from its batch word, the two ranks, the squared distance and the scale: the sample above the diagonal of
    the sorted order, zero elsewhere. -/
def edgeK (b p q : W) (d2 sc : F .f32) : F .f32 :=
  Scalar.select (IntOp.cmpi .slt p q)
    (sampleK (draw .vector (twenty mixV 1#32 466688987#32 (0#32, pairWord b p q))) (logitK (logpK d2 sc)))
    (FloatOps.ofBits .f32 0x00000000#32)

/-- The stored graph block, a term of the five loaded blocks. -/
def graphBlock (b : W) (v0 : Vec F S1x1x256 .f32) (v3 : Vec F S1x1x256 .i32) (v6 : Vec F S1x1x1024 .f32) (v8 : Vec F S1x1x1024 .i32)
    (v10 : Vec F S1x1x1 .f32) : FVec F S1x256x1024 .f32 :=
  shapeCast S1x256x1024 (fun i => Scalar.select (k1_pay11 (k1_pay2 v3) (k1_pay3 v8) i)
      (sampleK (draw .vector (twenty mixV 1#32 466688987#32
        (0#32, k1_pay14 b (k1_pay2 v3) (k1_pay3 v8) (k1_pay12 (k1_pay2 v3)) (k1_pay13 (k1_pay2 v3)) i))) (logitK (k1_pay4 v0 v6 v10 i)))
      (FloatOps.ofBits .f32 0x00000000#32 : F .f32)) shapeCasts_S256x1024_S1x256x1024

attribute [local irreducible] IntOp.addi IntOp.xori IntOp.ori IntOp.shli IntOp.shrui in
/-- The body's last payload is the graph block, once the log-odds, the mask and the pair of words it is given are read. -/
theorem graphBlock_of (b : W) (v0 : Vec F S1x1x256 .f32) (v3 : Vec F S1x1x256 .i32) (v6 : Vec F S1x1x1024 .f32)
    (v8 : Vec F S1x1x1024 .i32) (v10 : Vec F S1x1x1 .f32) (v49 : FVec F S256x1024 .f32) (v52 : IVec S256x1024 1)
    (v260 v262 : IVec S256x1024 32) (h49 : ∀ i, v49 i = logitK (k1_pay4 v0 v6 v10 i))
    (h52 : v52 = k1_pay11 (k1_pay2 v3) (k1_pay3 v8))
    (hw : ∀ i, (v260 i, IntOp.addi (v262 i) 5#32) = twenty mixV 1#32 466688987#32
      (0#32, k1_pay14 b (k1_pay2 v3) (k1_pay3 v8) (k1_pay12 (k1_pay2 v3)) (k1_pay13 (k1_pay2 v3)) i)) :
    k1_pay59 v49 v52 v260 v262 5#32 = graphBlock b v0 v3 v6 v8 v10 := by
  subst h52
  have e : k1_pay59 v49 (k1_pay11 (k1_pay2 v3) (k1_pay3 v8)) v260 v262 5#32
      = shapeCast S1x256x1024 (fun i => Scalar.select (k1_pay11 (k1_pay2 v3) (k1_pay3 v8) i)
        (sampleK (draw .vector (v260 i, IntOp.addi (v262 i) 5#32)) (v49 i))
        (FloatOps.ofBits .f32 0x00000000#32 : F .f32)) shapeCasts_S256x1024_S1x256x1024 := rfl
  rw [e]
  unfold graphBlock
  congr 1
  funext i
  rw [hw i, h49 i]

/-- The stored graph block at an element. -/
theorem graphBlock_apply (b : W) (v0 : Vec F S1x1x256 .f32) (v3 : Vec F S1x1x256 .i32) (v6 : Vec F S1x1x1024 .f32)
    (v8 : Vec F S1x1x1024 .i32) (v10 : Vec F S1x1x1 .f32) (u : Fin 1) (r : Fin 256) (j : Fin 1024) :
    graphBlock b v0 v3 v6 v8 v10 (ix3 u r j)
      = edgeK b (v3 (ix3 (0 : Fin 1) (0 : Fin 1) r)) (v8 (ix3 (0 : Fin 1) (0 : Fin 1) j))
        (FloatOps.mulf (FloatOps.subf (v0 (ix3 (0 : Fin 1) (0 : Fin 1) r)) (v6 (ix3 (0 : Fin 1) (0 : Fin 1) j)))
          (FloatOps.subf (v0 (ix3 (0 : Fin 1) (0 : Fin 1) r)) (v6 (ix3 (0 : Fin 1) (0 : Fin 1) j))))
        (v10 (ix3 (0 : Fin 1) (0 : Fin 1) (0 : Fin 1))) := by
  unfold graphBlock
  refine (shapeCast_ab_1ab_apply _ _ u r j).trans ?_
  rw [pay14_apply, pay4_apply, pay11_apply, pay2_apply, pay3_apply]
  rfl

/-- The zero block at an element. -/
theorem zeroBlock_apply (i : S1x256x1024.Idx) : k1_pay1 (F := F) i = FloatOps.ofBits .f32 0x00000000#32 := rfl

/-- The bipartite block at an element: the two edges at row 0, columns 0 and 1, zero elsewhere. -/
theorem bipBlock_apply (v303 v305 : Vec F S1x1x1 .f32) (u : Fin 1) (r : Fin 256) (j : Fin 1024) :
    k1_pay60 v303 v305 (ix3 u r j)
      = if r.val = 0 ∧ j.val = 1 then v305 (ix3 (0 : Fin 1) (0 : Fin 1) (0 : Fin 1))
        else if r.val = 0 ∧ j.val = 0 then v303 (ix3 (0 : Fin 1) (0 : Fin 1) (0 : Fin 1))
        else FloatOps.ofBits .f32 0x00000000#32 := by
  have e (v : Vec F S1x1x1 .f32) : broadcastTo S256x1024 (shapeCast S1x1 (shapeCast S1x1 v shapeCasts_S1x1x1_S1x1)
      shapeCasts_S1x1_S1x1) broadcasts_S1x1_S256x1024 (ix2 r j) = v (ix3 (0 : Fin 1) (0 : Fin 1) (0 : Fin 1)) := by
    rw [broadcastTo_one, shapeCast_self]
    exact shapeCast_1ab_ab_apply _ _ (0 : Fin 1) (0 : Fin 1)
  have hr : iota .tc S256x1024 32 [0] iota_S256x1024_d0_w32 (ix2 r j) = BitVec.ofNat 32 r.val := by
    rw [iota_apply]; simp
  have hj : iota .tc S256x1024 32 [1] iota_S256x1024_d1_w32 (ix2 r j) = BitVec.ofNat 32 j.val := by
    rw [iota_apply]; simp
  have hw (n k : ℕ) (hn : n < 1024) (hk : k < 1024) : (BitVec.ofNat 32 n = BitVec.ofNat 32 k) ↔ n = k := by
    constructor
    · intro h
      have := congrArg BitVec.toNat h
      simp only [BitVec.toNat_ofNat] at this
      omega
    · rintro rfl; rfl
  have h0 := hw r.val 0 (by omega) (by omega)
  have h1 := hw j.val 0 (by omega) (by omega)
  have h2 := hw j.val 1 (by omega) (by omega)
  unfold k1_pay60
  refine (shapeCast_ab_1ab_apply _ _ u r j).trans ?_
  show Scalar.select (IntOp.andi (IntOp.cmpi .eq (iota .tc S256x1024 32 [0] iota_S256x1024_d0_w32 (ix2 r j)) 0#32)
      (IntOp.cmpi .eq (iota .tc S256x1024 32 [1] iota_S256x1024_d1_w32 (ix2 r j)) 1#32))
    (broadcastTo S256x1024 (shapeCast S1x1 (shapeCast S1x1 v305 shapeCasts_S1x1x1_S1x1)
      shapeCasts_S1x1_S1x1) broadcasts_S1x1_S256x1024 (ix2 r j))
    (Scalar.select (IntOp.andi (IntOp.cmpi .eq (iota .tc S256x1024 32 [0] iota_S256x1024_d0_w32 (ix2 r j)) 0#32)
      (IntOp.cmpi .eq (iota .tc S256x1024 32 [1] iota_S256x1024_d1_w32 (ix2 r j)) 0#32))
      (broadcastTo S256x1024 (shapeCast S1x1 (shapeCast S1x1 v303 shapeCasts_S1x1x1_S1x1)
        shapeCasts_S1x1_S1x1) broadcasts_S1x1_S256x1024 (ix2 r j)) (FloatOps.ofBits .f32 0x00000000#32)) = _
  rw [e, e, hr, hj]
  have hc (n k : ℕ) (hn : n < 1024) (hk : k < 1024) : IntOp.cmpi .eq (BitVec.ofNat 32 n) (BitVec.ofNat 32 k) = if n = k then 1#1 else 0#1 := by
    unfold IntOp.cmpi
    by_cases h : n = k
    · subst h; simp
    · have := (hw n k hn hk).not.2 h
      have hb : (BitVec.ofNat 32 n == BitVec.ofNat 32 k) = false := beq_eq_false_iff_ne.2 this
      simp only [hb, h, if_false]
      rfl
  rw [hc r.val 0 (by omega) (by omega), hc j.val 0 (by omega) (by omega), hc j.val 1 (by omega) (by omega)]
  by_cases a0 : r.val = 0 <;> by_cases a1 : j.val = 0 <;> by_cases a2 : j.val = 1 <;> simp_all [Scalar.select, IntOp.andi]

end AnyInstance

end Cert.KernelIdeal.Blocks

end
-- ==== Proof.Numbering.lean ====
/- The numbering of the pairs `p < q`, row by row, and the word the kernel counts a pair's draw by. -/
module

public import proofs.«01_k».proof.Proof.GraphBlock
public import Idealize.ShloMosaic.Lib.Routing.Ops

@[expose] public section

set_option maxRecDepth 16384

noncomputable section

namespace Cert.Numbering

open Idealize.ShloMosaic Cert.KernelIdeal.Blocks Cert.Words Cert.Scalars

/-- Comparing two small words as signed numbers compares their numbers. -/
theorem slt_small (m n : ℕ) (hm : m < 2 ^ 31) (hn : n < 2 ^ 31) :
    IntOp.cmpi .slt (BitVec.ofNat 32 m) (BitVec.ofNat 32 n) = BitVec.ofBool (decide (m < n)) := by
  show BitVec.ofBool (BitVec.slt _ _) = _
  unfold BitVec.slt
  rw [StableHlo.Predicate.toInt_ofNat_small m hm, StableHlo.Predicate.toInt_ofNat_small n hn]
  simp only [Nat.cast_lt]

/-- The number of the first pair of row `p`: the rows before it have `1023 - i` pairs each. -/
def rowStart (p : ℕ) : ℕ := ((List.range p).map fun i => 1023 - i).sum

theorem rowStart_succ (p : ℕ) : rowStart (p + 1) = rowStart p + (1023 - p) := by
  unfold rowStart
  rw [List.range_succ, List.map_append, List.sum_append]
  simp

theorem two_rowStart (p : ℕ) (hp : p ≤ 1024) : 2 * rowStart p + p * p = 2047 * p := by
  induction p with
  | zero => rfl
  | succ p ih =>
    have h := ih (by omega)
    rw [rowStart_succ]
    have e : (p + 1) * (p + 1) = p * p + 2 * p + 1 := by ring
    omega

/-- The number of the pair `p < q`. -/
def number (p q : ℕ) : ℕ := rowStart p + (q - p - 1)

theorem number_lt (p q : ℕ) (hpq : p < q) (hq : q < 1024) : number p q < 523776 := by
  have h := two_rowStart p (by omega)
  have hb : 2045 * p + 2044 ≤ 1047550 + p * p := by
    obtain ⟨d, hd⟩ : ∃ d, p + d = 1022 := ⟨1022 - p, by omega⟩
    have h1 : p * p + p * d = p * 1022 := by rw [← Nat.mul_add, hd]
    have h2 : d * p + d * d = d * 1022 := by rw [← Nat.mul_add, hd]
    have h3 : d * p = p * d := Nat.mul_comm _ _
    have h4 : d ≤ d * d := Nat.le_mul_self d
    omega
  unfold number
  omega

/-- The halved product, as the kernel's floor division computes it. -/
theorem halfWord_ofNat : ∀ p : Fin 1024, halfWord (BitVec.ofNat 32 p.val) = BitVec.ofNat 32 (p.val * (p.val + 1) / 2) := by
  decide +kernel

theorem subi_ofNat (a c : ℕ) (h : c ≤ a) : IntOp.subi (BitVec.ofNat 32 a) (BitVec.ofNat 32 c) = BitVec.ofNat 32 (a - c) := by
  show BitVec.ofNat 32 a - BitVec.ofNat 32 c = _
  obtain ⟨d, rfl⟩ := Nat.exists_eq_add_of_le h
  rw [Nat.add_sub_cancel_left, BitVec.ofNat_add]
  rw [BitVec.add_comm, BitVec.add_sub_cancel]

theorem pred_addi_ofNat (a c : ℕ) (h : 1 ≤ c) :
    IntOp.addi (IntOp.subi (BitVec.ofNat 32 a) 1#32) (BitVec.ofNat 32 c) = BitVec.ofNat 32 (a + (c - 1)) := by
  obtain ⟨d, rfl⟩ := Nat.exists_eq_add_of_le' h
  show BitVec.ofNat 32 a - BitVec.ofNat 32 1 + BitVec.ofNat 32 (d + 1) = _
  rw [Nat.add_sub_cancel, BitVec.ofNat_add, BitVec.ofNat_add]
  rw [BitVec.add_comm (BitVec.ofNat 32 d), ← BitVec.add_assoc, BitVec.sub_add_cancel]

theorem addi_ofNat (a c : ℕ) : IntOp.addi (BitVec.ofNat 32 a) (BitVec.ofNat 32 c) = BitVec.ofNat 32 (a + c) :=
  (BitVec.ofNat_add ..).symm

theorem muli_ofNat (a c : ℕ) : IntOp.muli (BitVec.ofNat 32 a) (BitVec.ofNat 32 c) = BitVec.ofNat 32 (a * c) :=
  (BitVec.ofNat_mul ..).symm

/-- The kernel's word for the pair of ranks `p < q` of batch element `b` counts the pair's number. -/
theorem pairWord_ofNat (b p q : ℕ) (hpq : p < q) (hq : q < 1024) :
    pairWord (BitVec.ofNat 32 b) (BitVec.ofNat 32 p) (BitVec.ofNat 32 q)
      = BitVec.ofNat 32 (b * 523776 + number p q + 1) := by
  have h := two_rowStart p (by omega)
  have e : 2 * (p * (p + 1) / 2) = p * p + p := by
    rw [Nat.mul_div_cancel' (Nat.even_mul_succ_self p).two_dvd]
    ring
  have hpp : p * p ≤ 1023 * p := Nat.mul_le_mul_right p (by omega)
  unfold pairWord
  rw [halfWord_ofNat ⟨p, by omega⟩]
  dsimp only
  generalize p * (p + 1) / 2 = H at e
  rw [muli_ofNat b 523776, muli_ofNat p 1024, subi_ofNat (p * 1024) H (by omega), subi_ofNat (p * 1024 - H) p (by omega),
    pred_addi_ofNat _ q (by omega), addi_ofNat, addi_ofNat _ 1]
  refine congrArg (BitVec.ofNat 32) ?_
  unfold number
  omega

/-- A sampled edge between ranks `p` and `q` of batch element `b`, by the pair's number. -/
def edgeR (b p q : ℕ) (d2 sc : EReal) : EReal :=
  Scalar.select (BitVec.ofBool (decide (p < q)))
    (sampleR (F := Ideal) (draw .host (twenty mixH 1#32 466688987#32 (0#32, BitVec.ofNat 32 (b * 523776 + number p q + 1))))
      (logitR (F := Ideal) (logpR (F := Ideal) d2 sc)))
    (FloatOps.ofBits (F := Ideal) .f32 0x00000000#32)

theorem edge_eq (b p q : ℕ) (hp : p < 1024) (hq : q < 1024) (d2 sc : EReal) :
    edgeK (F := Ideal) (BitVec.ofNat 32 b) (BitVec.ofNat 32 p) (BitVec.ofNat 32 q) d2 sc = edgeR b p q d2 sc := by
  unfold edgeK edgeR
  rw [slt_small p q (by omega) (by omega)]
  by_cases h : p < q
  · rw [pairWord_ofNat b p q h hq, sample_eq, logit_eq, logp_eq, draw_unit, twenty_mixV]
  · rw [decide_eq_false h, show BitVec.ofBool false = 0#1 from rfl, ValueIdx.select_zero, ValueIdx.select_zero]

end Cert.Numbering

end
-- ==== Proof.Sorts.lean ====
/- The reference's two argsorts: the sorted rows' sources, and the positions in the sorted order. -/
module

public import proofs.«01_k».proof.Proof.Gen.ReferenceIdeal.Read
public import proofs.«01_k».proof.Proof.Ranks
public import proofs.«01_k».proof.Proof.Gathers
public import proofs.«01_k».proof.Proof.Numbering

@[expose] public section

set_option maxRecDepth 16384

noncomputable section

namespace Cert.ReferenceIdeal.Stages

open Idealize.ShloMosaic hiding ix0 ix1 ix2 ix3 eq_ix1 eq_ix2 eq_ix3
open Idealize.ShloMosaic.ValueIdx Cert.ReferenceIdeal Cert.ReferenceIdeal.Read Cert.Ranks Cert.Numbering

/-- The sort key of an element: its log cdf. -/
def key (x0 : S16x1024x128.Idx → EReal) (b : Fin 16) (k : Fin 1024) : EReal := val_main_v8 (F := Ideal) x0 (ix2 b k)

theorem along_ix2 (b : Fin 16) (j : Fin 1024) (h : 1 < S16x1024.rank) (k : Fin 1024) :
    Shape.Idx.along (s := S16x1024) (ix2 b j) ⟨1, h⟩ k = ix2 b k := by
  funext a
  match a with
  | ⟨0, _⟩ => rfl
  | ⟨1, _⟩ => rfl

/-- A sort of rows that carries a second operand: the second operand, at the position the row's order gives. -/
theorem sort2_carried {α β : Type} (cmp : α × β → α × β → BitVec 1) (x : S16x1024.Idx → α) (y : S16x1024.Idx → β)
    (b : Fin 16) (j : Fin 1024) (R : Fin 1024 → Fin 1024 → Bool)
    (hR : ∀ k k', (cmp (x (ix2 b k), y (ix2 b k)) (x (ix2 b k'), y (ix2 b k')) == 1#1) = R k k') :
    (Host.sort2 S16x1024 1 cmp x y).2 (ix2 b j) = y (ix2 b (sortedFrom R j)) := by
  have h1 : 1 < S16x1024.rank := by decide
  have hb : (fun k k' : Fin 1024 => cmp (x (Shape.Idx.along (s := S16x1024) (ix2 b j) ⟨1, h1⟩ k),
        y (Shape.Idx.along (s := S16x1024) (ix2 b j) ⟨1, h1⟩ k)) (x (Shape.Idx.along (s := S16x1024) (ix2 b j) ⟨1, h1⟩ k'),
        y (Shape.Idx.along (s := S16x1024) (ix2 b j) ⟨1, h1⟩ k')) == 1#1) = R := by
    funext k k'
    rw [along_ix2, along_ix2]
    exact hR k k'
  unfold Host.sort2
  rw [dif_pos h1]
  exact (congrArg (fun T : Fin 1024 → Fin 1024 → Bool => y (Shape.Idx.along (s := S16x1024) (ix2 b j) ⟨1, h1⟩
    (sortedFrom T j))) hb).trans (congrArg y (along_ix2 b j h1 _))

/-- The first sort's comparator orders by the key alone. -/
theorem float_before (x y : EReal) (u v : BitVec 32) :
    (comparator_f32_i32_d1 (F := Ideal) (x, u) (y, v) == 1#1) = decide (x < y) := by
  have canon : ∀ z : EReal,
      Scalar.select (FloatOps.cmpf (F := Ideal) (φ := .f32) .une z z) (FloatOps.ofBits (F := Ideal) .f32 0x7FC00000#32)
        (Scalar.select (FloatOps.cmpf (F := Ideal) (φ := .f32) .oeq z (FloatOps.ofBits (F := Ideal) .f32 0x00000000#32))
          (FloatOps.ofBits (F := Ideal) .f32 0x00000000#32) z) = z := by
    intro z
    have h1 : FloatOps.cmpf (F := Ideal) (φ := .f32) .une z z = BitVec.ofBool (decide (z ≠ z)) := rfl
    have h2 : FloatOps.cmpf (F := Ideal) (φ := .f32) .oeq z (FloatOps.ofBits (F := Ideal) .f32 0x00000000#32)
        = BitVec.ofBool (decide (z = FloatOps.ofBits (F := Ideal) .f32 0x00000000#32)) := rfl
    rw [h1, h2]
    have h3 : decide (z ≠ z) = false := by simp
    rw [h3]
    by_cases h : z = FloatOps.ofBits (F := Ideal) .f32 0x00000000#32
    · rw [decide_eq_true h]
      exact h.symm
    · rw [decide_eq_false h]
      rfl
  unfold comparator_f32_i32_d1
  dsimp only
  rw [canon, canon]
  show (BitVec.ofBool (decide (x < y)) == 1#1) = _
  cases decide (x < y) <;> rfl

/-- The first argsort: the source of each sorted position. -/
theorem argsort_apply (x0 : S16x1024x128.Idx → EReal) (b : Fin 16) (j : Fin 1024) :
    val_main_v9 (F := Ideal) x0 (ix2 b j) = BitVec.ofNat 32 (sortedFrom (keyLt (key x0 b)) j).val := by
  unfold val_main_v9
  rw [sort2_carried _ _ _ b j (keyLt (key x0 b)) fun k k' => float_before _ _ _ _]
  rfl

/-- The second argsort: the sorted position of each source. -/
theorem position_apply (x0 : S16x1024x128.Idx → EReal) (b : Fin 16) (j : Fin 1024) :
    val_main_v269 (F := Ideal) x0 (ix2 b j) = BitVec.ofNat 32 (rank (key x0 b) j) := by
  unfold val_main_v269
  rw [sort2_carried _ _ _ b j (keyLt fun k => sortedFrom (keyLt (key x0 b)) k) fun k k' => ?_,
    sortedFrom_sortedFrom (key x0 b) _ rfl]
  · rfl
  · unfold comparator_i32_i32_d1
    dsimp only
    rw [argsort_apply, argsort_apply, slt_small _ _ (by omega) (by omega)]
    generalize sortedFrom (keyLt (key x0 b)) = g
    unfold keyLt
    simp only [Fin.lt_def]
    cases decide ((g k).val < (g k').val) <;> rfl

/-- An index below the bound needs no wrap. -/
theorem nowrap (k : ℕ) (hk : k < 2 ^ 31) (w : BitVec 32) :
    Scalar.select (IntOp.cmpi .slt (BitVec.ofNat 32 k) 0#32) w (BitVec.ofNat 32 k) = BitVec.ofNat 32 k := by
  rw [show (0#32 : BitVec 32) = BitVec.ofNat 32 0 from rfl, slt_small k 0 hk (by decide),
    decide_eq_false (Nat.not_lt_zero k)]
  rfl

/-- The sorted keys. -/
theorem sortedKey_apply (x0 : S16x1024x128.Idx → EReal) (b : Fin 16) (j : Fin 1024) :
    val_main_v10 (F := Ideal) x0 (ix2 b j) = key x0 b (sortedFrom (keyLt (key x0 b)) j) := by
  unfold val_main_v10 key
  refine pick2 _ _ b j _ ?_
  have hi : idx_main_call1_v5 (ix3 b j (0 : Fin 1)) = ix2 b j := by
    funext a
    apply Fin.ext
    match a with
    | ⟨0, _⟩ =>
      show ((b.val * 1024 + j.val) * 1 + 0) / 1024 = b.val
      omega
    | ⟨1, _⟩ =>
      show ((b.val * 1024 + j.val) * 1 + 0) % 1024 = j.val
      omega
  rw [val_main_call1_v5_apply, hi, val_main_call1_v4_apply, val_main_call1_v1_apply, val_main_call1_v0_apply,
    val_main_call1_c_apply, argsort_apply]
  exact nowrap _ (by omega) _

end Cert.ReferenceIdeal.Stages

end
-- ==== Proof.Host.lean ====
/- What the kernel program's host operations leave for its two grids: the log cdfs, and one row of small values per batch
   entry. Both are the reference's own stages. -/
module

public import proofs.«01_k».proof.Proof.KRun
public import proofs.«01_k».proof.Proof.Sorts
public import Idealize.ShloMosaic.Lib.StableHlo.Run
public import Idealize.ShloMosaic.Lib.StableHlo.RunRead
public import Idealize.ShloMosaic.Lib.Pipeline.Value

@[expose] public section

set_option maxRecDepth 16384

noncomputable section

namespace Cert.KernelIdeal.Gen

open Idealize.ShloMosaic hiding ix0 ix1 ix2 ix3 eq_ix1 eq_ix2 eq_ix3
open Idealize.ShloMosaic.ValueIdx Idealize.ShloMosaic.TcCoe Idealize.ShloMosaic.StableHlo
open Cert.ReferenceIdeal.Read Cert.ReferenceIdeal.Stages

variable (m : (ℓ : Loc nD τ sig) → Buf (Elt Ideal) ℓ) (ρ : Dev nD → PrngReg)

/-- The log cdfs, as one array over the arguments. -/
theorem logs_read (c : Dev nD) : V1 m ρ c main_v9
    = (broadcastInDim S16x1x1024 ![0, 2] bcast_S16x1024_S16x1x1024_0_2
        (val_main_v8 (F := Ideal) (m ((c.tc : Thread nD τ).loc main_arg0)))
        : (⟨S16x1x1024, .f32⟩ : BufTy).Contents (Elt Ideal)) := by
  show after hostOps0 (W0 m ρ c) (Proc.devRef .tc main_v9) = _
  unfold hostOps0
  after_reads_simp
  rfl

/-- The row of small values, as one array over the arguments. -/
theorem small_read (c : Dev nD) : V1 m ρ c main_v19
    = (broadcastInDim S16x1x128 ![0, 2] bcast_S16x128_S16x1x128_0_2
        (concatenate S16x128 1 [⟨S16x2, val_main_v281 (F := Ideal) (m ((c.tc : Thread nD τ).loc main_arg0))
            (m ((c.tc : Thread nD τ).loc main_arg1))⟩,
          ⟨S16x1, broadcastInDim S16x1 ![1] bcast_S1_S16x1_1 (m ((c.tc : Thread nD τ).loc main_arg2))⟩,
          ⟨S16x125, broadcastInDim S16x125 ![] bcast_S_S16x125 (constant (F := Ideal) S_ .f32 0x00000000#32)⟩]
          concatenates_S16x2_S16x1_S16x125_S16x128_d1)
        : (⟨S16x1x128, .f32⟩ : BufTy).Contents (Elt Ideal)) := by
  show after hostOps0 (W0 m ρ c) (Proc.devRef .tc main_v19) = _
  unfold hostOps0
  after_reads_simp
  rfl

/-- The log cdf of an element, as both grids read it. -/
theorem logs_apply (c : Dev nD) (b : Fin 16) (k : Fin 1024) :
    V1 m ρ c main_v9 (ix3 b (0 : Fin 1) k) = key (m ((c.tc : Thread nD τ).loc main_arg0)) b k := by
  rw [logs_read]
  unfold key
  generalize val_main_v8 (F := Ideal) (m ((c.tc : Thread nD τ).loc main_arg0)) = y
  exact broadcastInDim_apply _ bcast_S16x1024_S16x1x1024_0_2 y _ (ix2 b k) (fun a => match a with
    | ⟨0, _⟩ => by show b.val = if (16 : ℕ) = 1 then 0 else b.val; rw [if_neg (by decide)]
    | ⟨1, _⟩ => by show k.val = if (1024 : ℕ) = 1 then 0 else k.val; rw [if_neg (by decide)])

/-- The first two small values of a batch entry: the squared distances to its first target. -/
theorem dist_apply (c : Dev nD) (b : Fin 16) (l : Fin 2) (k : Fin 128) (hk : k.val = l.val) :
    V1 m ρ c main_v19 (ix3 b (0 : Fin 1) k) = val_main_v281 (F := Ideal) (m ((c.tc : Thread nD τ).loc main_arg0))
      (m ((c.tc : Thread nD τ).loc main_arg1)) (ix2 b l) := by
  rw [small_read]
  generalize val_main_v281 (F := Ideal) (m ((c.tc : Thread nD τ).loc main_arg0)) (m ((c.tc : Thread nD τ).loc main_arg1)) = y
  refine (broadcastInDim_apply _ bcast_S16x128_S16x1x128_0_2 _ (ix3 b (0 : Fin 1) k) (ix2 b k) (fun a => match a with
    | ⟨0, _⟩ => by show b.val = if (16 : ℕ) = 1 then 0 else b.val; rw [if_neg (by decide)]
    | ⟨1, _⟩ => by show k.val = if (128 : ℕ) = 1 then 0 else k.val; rw [if_neg (by decide)])).trans ?_
  refine concatenate_apply_piece (t := S16x128) 1 _ _ (ix2 b k) 0 (by exact Nat.succ_pos _) S16x2 y rfl rfl 0 rfl (ix2 b l) (fun a ha => ?_) ?_
  · match a with
    | ⟨0, _⟩ => rfl
    | ⟨1, _⟩ => exact absurd rfl ha
  · show 0 + l.val = k.val
    omega

/-- The third small value of a batch entry: the scale. -/
theorem scale_apply (c : Dev nD) (b : Fin 16) (k : Fin 128) (hk : k.val = 2) :
    V1 m ρ c main_v19 (ix3 b (0 : Fin 1) k)
      = (m ((c.tc : Thread nD τ).loc main_arg2) : S1.Idx → EReal) (ix1 (0 : Fin 1)) := by
  rw [small_read]
  generalize val_main_v281 (F := Ideal) (m ((c.tc : Thread nD τ).loc main_arg0)) (m ((c.tc : Thread nD τ).loc main_arg1)) = y
  refine (broadcastInDim_apply _ bcast_S16x128_S16x1x128_0_2 _ (ix3 b (0 : Fin 1) k) (ix2 b k) (fun a => match a with
    | ⟨0, _⟩ => by show b.val = if (16 : ℕ) = 1 then 0 else b.val; rw [if_neg (by decide)]
    | ⟨1, _⟩ => by show k.val = if (128 : ℕ) = 1 then 0 else k.val; rw [if_neg (by decide)])).trans ?_
  refine (concatenate_apply_piece (t := S16x128) 1 _ _ (ix2 b k) 1 (by exact Nat.succ_lt_succ (Nat.succ_pos _)) S16x1 _ rfl rfl 2 rfl (ix2 b (0 : Fin 1))
    (fun a ha => ?_) ?_).trans ?_
  · match a with
    | ⟨0, _⟩ => rfl
    | ⟨1, _⟩ => exact absurd rfl ha
  · show 2 + 0 = k.val
    omega
  · exact broadcastInDim_apply _ bcast_S1_S16x1_1 _ (ix2 b (0 : Fin 1)) (ix1 (0 : Fin 1)) (fun a => match a with
      | ⟨0, _⟩ => by show 0 = if (1 : ℕ) = 1 then 0 else 0; rw [if_pos rfl])

end Cert.KernelIdeal.Gen

end
-- ==== Proof.StatsBlock.lean ====
/- The first kernel body's stored values, read at one element: the rank row and the two bipartite edges. -/
module

public import proofs.«01_k».proof.Proof.Scalars
public import proofs.«01_k».proof.Proof.Ranks
public import proofs.«01_k».proof.Proof.Gen.KernelIdeal.Skeleton
public import Idealize.ShloMosaic.Lib.ValueLayout
public import Idealize.ShloMosaic.Lib.Pointwise.ShapeOpsCore
public import Idealize.ShloMosaic.Lib.Routing.Ops

@[expose] public section

set_option maxRecDepth 16384

noncomputable section

namespace Cert.KernelIdeal.Blocks

open Idealize.ShloMosaic hiding ix0 ix1 ix2 ix3 eq_ix1 eq_ix2 eq_ix3
open Idealize.ShloMosaic.ValueIdx Cert.KernelIdeal Cert.KernelIdeal.Gen Cert.Words Cert.Scalars Cert.Ranks

/-! ### The ranks -/

/-- One pair's contribution to a rank: 1 if position `i` precedes position `j` in the sorted order of the row, else 0. -/
theorem rank_term (f : Fin 1024 → EReal) (i j : Fin 1024) :
    Scalar.select (IntOp.ori (FloatOps.cmpf (F := Ideal) (φ := .f32) .olt (f i) (f j))
        (IntOp.andi (FloatOps.cmpf (F := Ideal) (φ := .f32) .oeq (f i) (f j))
          (IntOp.cmpi .slt (BitVec.ofNat 32 i.val) (BitVec.ofNat 32 j.val))))
      (FloatOps.ofBits (F := Ideal) .f32 0x3F800000#32) (FloatOps.ofBits (F := Ideal) .f32 0x00000000#32)
      = @ite EReal (Precedes f i j) (Classical.propDecidable _) 1 0 := by
  have hlt : IntOp.cmpi .slt (BitVec.ofNat 32 i.val) (BitVec.ofNat 32 j.val) = BitVec.ofBool (decide (i < j)) := by
    have hi := StableHlo.Predicate.toInt_ofNat_small i.val (by omega)
    have hj := StableHlo.Predicate.toInt_ofNat_small j.val (by omega)
    unfold IntOp.cmpi
    simp only [BitVec.slt, hi, hj, Nat.cast_lt, Fin.lt_def]
  rw [hlt]
  have h1 : FloatOps.cmpf (F := Ideal) (φ := .f32) .olt (f i) (f j) = BitVec.ofBool (decide (f i < f j)) := rfl
  have h2 : FloatOps.cmpf (F := Ideal) (φ := .f32) .oeq (f i) (f j) = BitVec.ofBool (decide (f i = f j)) := rfl
  rw [h1, h2]
  have e0 : FloatOps.ofBits (F := Ideal) .f32 0x00000000#32 = (0 : EReal) := lit_zero
  have e1 : FloatOps.ofBits (F := Ideal) .f32 0x3F800000#32 = (1 : EReal) := lit_one
  rw [e0, e1]
  unfold Precedes
  by_cases a : f i < f j <;> by_cases b : f i = f j <;> by_cases c : i < j <;> simp [a, b, c, Scalar.select, IntOp.ori, IntOp.andi]

/-- A number below 2^31 as an ideal value, converted to a word. -/
theorem fptosi_natCast (n : ℕ) (hn : n < 2 ^ 31) : FloatOps.fptosi (F := Ideal) (φ := .f32) 32 ((n : ℕ) : EReal) = BitVec.ofNat 32 n := by
  show Ideal.fptosi 32 ((n : ℕ) : EReal) = _
  have e : ((n : ℕ) : EReal) = ((n : ℝ) : EReal) := by norm_cast
  unfold Ideal.fptosi
  rw [e]
  have : Ideal.toIntClamped (-(2 ^ (32 - 1) : Nat)) ((2 ^ (32 - 1) : Nat) - 1) ((n : ℝ) : EReal) = (n : Int) := by
    show max _ (min _ (if (0 : ℝ) ≤ (n : ℝ) then ⌊(n : ℝ)⌋ else ⌈(n : ℝ)⌉)) = _
    rw [if_pos (Nat.cast_nonneg n), Int.floor_natCast]
    omega
  rw [this]
  exact BitVec.ofInt_natCast 32 n

/-- The table of contributions: 1 where the row's position precedes the column's, else 0. -/
def before (v0 : Vec Ideal S1x1x1024 .f32) : FVec Ideal S1024x1024 .f32 :=
  let row : FVec Ideal S1x1024 .f32 := shapeCast S1x1024 v0 shapeCasts_S1x1x1024_S1x1024
  let ri : FVec Ideal S1024x1024 .f32 := broadcastTo S1024x1024
    (transpose S1024x1 [1, 0] row transposes_S1x1024_p1_0_S1024x1) broadcasts_S1024x1_S1024x1024
  let rj : FVec Ideal S1024x1024 .f32 := broadcastTo S1024x1024 row broadcasts_S1x1024_S1024x1024
  select (ori (cmpf .olt ri rj) (andi (cmpf .oeq ri rj)
      (cmpi .slt (iota .tc S1024x1024 32 [0] iota_S1024x1024_d0_w32) (iota .tc S1024x1024 32 [1] iota_S1024x1024_d1_w32))))
    (broadcast S1024x1024 (Scalar.ofBits (F := Ideal) .f32 0x3F800000#32))
    (broadcast S1024x1024 (Scalar.ofBits (F := Ideal) .f32 0x00000000#32))

/-- The rank row at a column: the number of the row's positions that precede it, as a word. -/
theorem rankBlock_apply (v0 : Vec Ideal S1x1x1024 .f32) (u v : Fin 1) (j : Fin 1024) :
    k0_pay4 v0 (ix3 u v j)
      = BitVec.ofNat 32 (rank (fun k : Fin 1024 => (v0 (ix3 (0 : Fin 1) (0 : Fin 1) k) : EReal)) j) := by
  have hv : v = 0 := by omega
  subst hv
  set f : Fin 1024 → EReal := fun k : Fin 1024 => (v0 (ix3 (0 : Fin 1) (0 : Fin 1) k) : EReal) with hf
  unfold k0_pay4
  refine (shapeCast_ab_1ab_apply _ _ u (0 : Fin 1) j).trans ?_
  refine (congrArg (FloatOps.fptosi (F := Ideal) (φ := .f32) 32) ?_).trans (fptosi_natCast _ (lt_trans (rank_lt f j) (by norm_num)))
  refine (shapeCast_a_1a_apply _ _ (0 : Fin 1) j).trans ?_
  refine (Ideal.multiReduction_add_single _ _ _ _ _ _).trans ?_
  have key (k : Fin 1024) : (Scalar.select
      (IntOp.ori (FloatOps.cmpf (F := Ideal) (φ := .f32) .olt (f k) (f j))
        (IntOp.andi (FloatOps.cmpf (F := Ideal) (φ := .f32) .oeq (f k) (f j))
          (IntOp.cmpi .slt (BitVec.ofNat 32 k.val) (BitVec.ofNat 32 j.val))))
      (FloatOps.ofBits (F := Ideal) .f32 0x3F800000#32) (FloatOps.ofBits (F := Ideal) .f32 0x00000000#32) : EReal)
      = @ite EReal (Precedes f k j) (Classical.propDecidable _) 1 0 := rank_term f k j
  have hcol (k : Fin 1024) : broadcastTo S1024x1024 (transpose S1024x1 [1, 0] (shapeCast S1x1024 v0 shapeCasts_S1x1x1024_S1x1024)
      transposes_S1x1024_p1_0_S1024x1) broadcasts_S1024x1_S1024x1024 (ix2 k j) = f k := by
    refine (broadcastTo_apply _ _ (ix2 k j) (ix2 k (0 : Fin 1)) fun ax => ?_).trans
      ((transpose_ix2_apply _ _ k (0 : Fin 1)).trans (shapeCast_1ab_ab_apply _ _ (0 : Fin 1) k))
    match ax with
    | ⟨0, _⟩ => rfl
    | ⟨1, _⟩ => rfl
  have hrow (k : Fin 1024) : broadcastTo S1024x1024 (shapeCast S1x1024 v0 shapeCasts_S1x1x1024_S1x1024)
      broadcasts_S1x1024_S1024x1024 (ix2 k j) = f j :=
    (broadcastTo_1b_ab_apply _ _ k j).trans (shapeCast_1ab_ab_apply _ _ (0 : Fin 1) j)
  have hi (k : Fin 1024) : iota .tc S1024x1024 32 [0] iota_S1024x1024_d0_w32 (ix2 k j) = BitVec.ofNat 32 k.val := by
    rw [iota_apply]; simp
  have hj (k : Fin 1024) : iota .tc S1024x1024 32 [1] iota_S1024x1024_d1_w32 (ix2 k j) = BitVec.ofNat 32 j.val := by
    rw [iota_apply]; simp
  have hl (k : Fin 1024) : reduces_S1024x1024_S1024.lift (ix1 j) k = ix2 k j := by
    rw [eq_ix2 (reduces_S1024x1024_S1024.lift (ix1 j) k)]
    rfl
  have hterm : ∀ k : Fin 1024, before v0 (ix2 k j) = @ite EReal (Precedes f k j) (Classical.propDecidable _) 1 0 := by
    intro k
    rw [← key k, ← hcol k, ← hrow k, ← hi k, ← hj k]
    rfl
  refine (Finset.sum_congr (g := fun k : Fin 1024 => @ite EReal (Precedes f k j) (Classical.propDecidable _) 1 0) rfl
    fun k _ => (congrArg (before v0) (hl k)).trans (hterm k)).trans ?_
  have hsum (p : Fin 1024 → Prop) [DecidablePred p] :
      (∑ k : Fin 1024, if p k then (1 : EReal) else 0) = (((Finset.univ.filter p).card : ℕ) : EReal) := Finset.sum_boole _ _
  classical
  exact (hsum fun k => Precedes f k j).trans (by unfold rank; congr 2)

/-! ### The two edges -/

section AnyInstance

variable {F : FTy → Type} [FloatOps F]

/-- The bipartite draw's counter of lane `l` in batch `b`, the key's low word added. -/
def laneWord (b l : W) : W := IntOp.addi (IntOp.addi (IntOp.muli b 2#32) l) 2#32

/-- One bipartite edge from its batch word, its lane, the squared distance and the scale. -/
def bipK (b l : W) (d2 sc : F .f32) : F .f32 :=
  sampleK (draw .vector (twenty mixV 2#32 466688984#32 (0#32, laneWord b l))) (logitK (logpK d2 sc))

/-- The stored pair of edges, a term of the two loaded blocks. -/
def bipPair (b : W) (v23 : Vec F S1x1x2 .f32) (v25 : Vec F S1x1x1 .f32) : FVec F S1x2 .f32 :=
  let v32 := k0_pay7 v23 v25
  let v34 := k0_pay8 v23 v25
  let v38 := k0_pay9 v23 v25
  let v81 := k0_pay15 b
  let v82 := k0_pay16 b
  let v123 := k0_pay27 v81 v82 k0_pay17
  let v129 := k0_pay28 v81 v82 k0_pay17
  let v169 := k0_pay37 v123 v129
  let v170 := k0_pay38 v123 v129
  let v172 := k0_pay39 v123 v129
  let v217 := k0_pay51 v169 v170 v172 k0_pay40
  let v218 := k0_pay52 v169 v170 v172 k0_pay40
  k0_pay54 (k0_pay10 v32 v34 v38) v217 v218 k0_pay53

attribute [local irreducible] IntOp.addi IntOp.xori IntOp.ori IntOp.shli IntOp.shrui in
/-- The pair of edges at a lane, the distance and the counter still blocks. -/
theorem bipPair_eq (b : W) (v23 : Vec F S1x1x2 .f32) (v25 : Vec F S1x1x1 .f32) (i : S1x2.Idx) :
    bipPair b v23 v25 i
      = sampleK (draw .vector (twenty mixV 2#32 466688984#32 (0#32, k0_pay11 b i))) (logitK (k0_pay6 v23 v25 i)) := rfl

/-- The pair of edges at a lane. -/
theorem bipPair_apply (b : W) (v23 : Vec F S1x1x2 .f32) (v25 : Vec F S1x1x1 .f32) (u : Fin 1) (l : Fin 2) :
    bipPair b v23 v25 (ix2 u l)
      = bipK b (BitVec.ofNat 32 l.val) (v23 (ix3 (0 : Fin 1) (0 : Fin 1) l)) (v25 (ix3 (0 : Fin 1) (0 : Fin 1) (0 : Fin 1))) := by
  have hu : u = 0 := by omega
  subst hu
  have hl : iota .tc S1x2 32 [1] iota_S1x2_d1_w32 (ix2 (0 : Fin 1) l) = BitVec.ofNat 32 l.val := by
    rw [iota_apply]; simp
  have hw : k0_pay11 b (ix2 (0 : Fin 1) l) = laneWord b (BitVec.ofNat 32 l.val) := by
    rw [← hl]; rfl
  have hd : shapeCast S1x2 v23 shapeCasts_S1x1x2_S1x2 (ix2 (0 : Fin 1) l) = v23 (ix3 (0 : Fin 1) (0 : Fin 1) l) :=
    shapeCast_1ab_ab_apply _ _ (0 : Fin 1) l
  have hs : broadcastTo S1x2 (shapeCast S1x1 v25 shapeCasts_S1x1x1_S1x1) broadcasts_S1x1_S1x2 (ix2 (0 : Fin 1) l)
      = v25 (ix3 (0 : Fin 1) (0 : Fin 1) (0 : Fin 1)) := by
    refine (broadcastTo_apply _ _ (ix2 (0 : Fin 1) l) (ix2 (0 : Fin 1) (0 : Fin 1)) fun ax => ?_).trans
      (shapeCast_1ab_ab_apply _ _ (0 : Fin 1) (0 : Fin 1))
    match ax with
    | ⟨0, _⟩ => rfl
    | ⟨1, _⟩ => rfl
  have h6 : k0_pay6 v23 v25 (ix2 (0 : Fin 1) l)
      = logpK (v23 (ix3 (0 : Fin 1) (0 : Fin 1) l)) (v25 (ix3 (0 : Fin 1) (0 : Fin 1) (0 : Fin 1))) := by
    rw [← hd, ← hs]; rfl
  rw [bipPair_eq, hw, h6]
  rfl

end AnyInstance

end Cert.KernelIdeal.Blocks

end
-- ==== Proof.Bodies.lean ====
/- What one run of each kernel body leaves in its output blocks, as a term of its input blocks. -/
module

public import proofs.«01_k».proof.Proof.GraphBlock
public import proofs.«01_k».proof.Proof.StatsBlock
public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Blocks

open Idealize.ShloMosaic hiding ix0 ix1 ix2 ix3 eq_ix1 eq_ix2 eq_ix3
open Idealize.ShloMosaic.TcCoe Idealize.SL.Sem
open Idealize.ShloMosaic.ValueIdx Cert.KernelIdeal Cert.KernelIdeal.Gen Cert.Words Cert.Scalars Cert.Ranks

variable {F : FTy → Type} [FloatOps F]

theorem hz3 : (![0, 0, 0] : Fin 3 → Nat) = fun _ => 0 := funext fun a => by fin_cases a <;> rfl

/-- One lane of a row of 128, as a one-element block. -/
def lane (x : Vec F S1x1x128 .f32) (k : Fin 128) : Vec F S1x1x1 .f32 := fun _ => x (ix3 (0 : Fin 1) (0 : Fin 1) k)

/-- The first two lanes of a row of 128. -/
def lanes2 (x : Vec F S1x1x128 .f32) : Vec F S1x1x2 .f32 := fun i => x (ix3 (0 : Fin 1) (0 : Fin 1) ((i 2).castLE (by decide)))

theorem ld_lane (x : Vec F S1x1x128 .f32) (k : Fin 128) (inb) :
    View.ld (Val := Elt F) (S := S1x1x128) (e' := .f32) x (Rect.unit (s := S1x1x128) ![0, 0, k.val] S1x1x1.size inb) = lane x k := by
  funext i
  show x _ = x _
  congr 1
  funext a
  have h0 : (i 0).val < 1 := (i 0).isLt
  have h1 : (i 1).val < 1 := (i 1).isLt
  have h2 : (i 2).val < 1 := (i 2).isLt
  apply Fin.ext
  match a with
  | ⟨0, _⟩ => show 0 + 1 * (i 0).val = 0; omega
  | ⟨1, _⟩ => show 0 + 1 * (i 1).val = 0; omega
  | ⟨2, _⟩ => show k.val + 1 * (i 2).val = k.val; omega

theorem ld_lanes2 (x : Vec F S1x1x128 .f32) (inb) :
    View.ld (Val := Elt F) (S := S1x1x128) (e' := .f32) x (Rect.unit (s := S1x1x128) ![0, 0, 0] S1x1x2.size inb) = lanes2 x := by
  funext i
  show x _ = x _
  congr 1
  funext a
  have h0 : (i 0).val < 1 := (i 0).isLt
  have h1 : (i 1).val < 1 := (i 1).isLt
  apply Fin.ext
  match a with
  | ⟨0, _⟩ => show 0 + 1 * (i 0).val = 0; omega
  | ⟨1, _⟩ => show 0 + 1 * (i 1).val = 0; omega
  | ⟨2, _⟩ => show 0 + 1 * (i 2).val = (i 2).val; omega

/-! ### The second body -/

section Second

variable (c : Dev nD) (i : grid1.Coords) (arg3 : Memref sig .tc .vmem S1x1x256 .f32) (harg3 : arg3.IsWhole)
  (arg4 : Memref sig .tc .vmem S1x1x256 .i32) (harg4 : arg4.IsWhole) (arg5 : Memref sig .tc .vmem S1x1x1024 .f32) (harg5 : arg5.IsWhole)
  (arg6 : Memref sig .tc .vmem S1x1x1024 .i32) (harg6 : arg6.IsWhole) (arg7 : Memref sig .tc .vmem S1x1x128 .f32) (harg7 : arg7.IsWhole)
  (arg8 : Memref sig .tc .vmem S1x256x1024 .f32) (harg8 : arg8.IsWhole) (arg9 : Memref sig .tc .vmem S1x256x1024 .f32) (harg9 : arg9.IsWhole)
  (x0 : Vec F S1x1x256 .f32) (x1 : Vec F S1x1x256 .i32) (x2 : Vec F S1x1x1024 .f32) (x3 : Vec F S1x1x1024 .i32)
  (x4 : Vec F S1x1x128 .f32)

/-- The last payload over the body's loads is the graph block of the blocks loaded. -/
theorem graph_of_reads (v49 : FVec F S256x1024 .f32) (v52 : IVec S256x1024 1) (v260 v262 : IVec S256x1024 32) :
    let y0 : Vec F S1x1x256 .f32 := View.readAt (Elt F) arg3.view
      (Rect.unit (s := S1x1x256) ![0, 0, 0] S1x1x256.size inb_S1x1x256_S1x1x256_0_0_0).toLoadRect (harg3.unread x0)
    let y1 : Vec F S1x1x256 .i32 := View.readAt (Elt F) arg4.view
      (Rect.unit (s := S1x1x256) ![0, 0, 0] S1x1x256.size inb_S1x1x256_S1x1x256_0_0_0).toLoadRect (harg4.unread x1)
    let y2 : Vec F S1x1x1024 .f32 := View.readAt (Elt F) arg5.view
      (Rect.unit (s := S1x1x1024) ![0, 0, 0] S1x1x1024.size inb_S1x1x1024_S1x1x1024_0_0_0).toLoadRect (harg5.unread x2)
    let y3 : Vec F S1x1x1024 .i32 := View.readAt (Elt F) arg6.view
      (Rect.unit (s := S1x1x1024) ![0, 0, 0] S1x1x1024.size inb_S1x1x1024_S1x1x1024_0_0_0).toLoadRect (harg6.unread x3)
    let y4 : Vec F S1x1x1 .f32 := View.readAt (Elt F) arg7.view
      (Rect.unit (s := S1x1x128) ![0, 0, 8] S1x1x1.size inb_S1x1x128_S1x1x1_0_0_8).toLoadRect (harg7.unread x4)
    (∀ k, v49 k = logitK (k1_pay4 y0 y2 y4 k)) → v52 = k1_pay11 (k1_pay2 y1) (k1_pay3 y3)
      → (∀ k, (v260 k, IntOp.addi (v262 k) 5#32) = twenty mixV 1#32 466688987#32
        (0#32, k1_pay14 (BitVec.ofNat 32 (i 0).val) (k1_pay2 y1) (k1_pay3 y3) (k1_pay12 (k1_pay2 y1)) (k1_pay13 (k1_pay2 y1)) k))
      → k1_pay59 v49 v52 v260 v262 5#32 = graphBlock (BitVec.ofNat 32 (i 0).val) x0 x1 x2 x3 (lane x4 8) := by
  intro y0 y1 y2 y3 y4 h49 h52 hw
  refine (graphBlock_of (BitVec.ofNat 32 (i 0).val) y0 y1 y2 y3 y4 v49 v52 v260 v262 h49 h52 hw).trans ?_
  have e0 : y0 = x0 := by
    dsimp only [y0]; rw [View.readAt_eq_ld, harg3.read_unread]; exact View.ld_unit_zero (S := S1x1x256) hz3 _ x0
  have e1 : y1 = x1 := by
    dsimp only [y1]; rw [View.readAt_eq_ld, harg4.read_unread]; exact View.ld_unit_zero (S := S1x1x256) hz3 _ x1
  have e2 : y2 = x2 := by
    dsimp only [y2]; rw [View.readAt_eq_ld, harg5.read_unread]; exact View.ld_unit_zero (S := S1x1x1024) hz3 _ x2
  have e3 : y3 = x3 := by
    dsimp only [y3]; rw [View.readAt_eq_ld, harg6.read_unread]; exact View.ld_unit_zero (S := S1x1x1024) hz3 _ x3
  have e4 : y4 = lane x4 8 := by
    dsimp only [y4]; rw [View.readAt_eq_ld, harg7.read_unread]; exact ld_lane x4 8 _
  rw [e0, e1, e2, e3, e4]

attribute [local irreducible] IntOp.addi IntOp.xori IntOp.ori IntOp.shli IntOp.shrui in
/-- The graph block a body run leaves at a batch's first row block. -/
theorem out1_A_5_eq (hc0 hc1) : out1_A_5 c i arg3 harg3 arg4 harg4 arg5 harg5 arg6 harg6 arg7 harg7 arg8 harg8 arg9 harg9 hc0 hc1 x0 x1 x2 x3 x4
    = graphBlock (BitVec.ofNat 32 (i 0).val) x0 x1 x2 x3 (lane x4 8) := by
  unfold out1_A_5
  rw [View.read_writes_eq_canon _ _ _ (cover1_A_5 c i arg3 harg3 arg4 harg4 arg5 harg5 arg6 harg6 arg7 harg7 arg8 harg8 arg9 harg9 hc0 hc1 x0 x1 x2 x3 x4)]
  unfold kernelRun1_A
  dsimp only
  rw [View.canon_unit_zero (S := S1x256x1024) hz3]
  exact graph_of_reads i arg3 harg3 arg4 harg4 arg5 harg5 arg6 harg6 arg7 harg7 x0 x1 x2 x3 x4 _ _ _ _ (fun _ => rfl) rfl (fun _ => rfl)

attribute [local irreducible] IntOp.addi IntOp.xori IntOp.ori IntOp.shli IntOp.shrui in
/-- The graph block a body run leaves at a batch's later row blocks. -/
theorem out1_B_5_eq (hc0 hc1) : out1_B_5 c i arg3 harg3 arg4 harg4 arg5 harg5 arg6 harg6 arg7 harg7 arg8 harg8 arg9 harg9 hc0 hc1 x0 x1 x2 x3 x4
    = graphBlock (BitVec.ofNat 32 (i 0).val) x0 x1 x2 x3 (lane x4 8) := by
  unfold out1_B_5
  rw [View.read_writes_eq_canon _ _ _ (cover1_B_5 c i arg3 harg3 arg4 harg4 arg5 harg5 arg6 harg6 arg7 harg7 arg8 harg8 arg9 harg9 hc0 hc1 x0 x1 x2 x3 x4)]
  unfold kernelRun1_B
  dsimp only
  rw [View.canon_unit_zero (S := S1x256x1024) hz3]
  exact graph_of_reads i arg3 harg3 arg4 harg4 arg5 harg5 arg6 harg6 arg7 harg7 x0 x1 x2 x3 x4 _ _ _ _ (fun _ => rfl) rfl (fun _ => rfl)

/-- The bipartite block a body run leaves at a batch's first row block. -/
theorem out1_A_6_eq (hc0 hc1) : out1_A_6 c i arg3 harg3 arg4 harg4 arg5 harg5 arg6 harg6 arg7 harg7 arg8 harg8 arg9 harg9 hc0 hc1 x0 x1 x2 x3 x4
    = k1_pay60 (lane x4 0) (lane x4 1) := by
  unfold out1_A_6
  rw [View.read_writes_eq_canon _ _ _ (cover1_A_6 c i arg3 harg3 arg4 harg4 arg5 harg5 arg6 harg6 arg7 harg7 arg8 harg8 arg9 harg9 hc0 hc1 x0 x1 x2 x3 x4)]
  unfold kernelRun1_A
  dsimp only
  sl_unfold_words
  rw [View.canon_unit_zero (S := S1x256x1024) hz3]
  simp only [View.readAt_eq_ld, harg7.read_unread]
  rw [← ld_lane x4 0, ← ld_lane x4 1]
  rfl

/-- The bipartite block a body run leaves at a batch's later row blocks: zeros. -/
theorem out1_B_6_eq (hc0 hc1) : out1_B_6 c i arg3 harg3 arg4 harg4 arg5 harg5 arg6 harg6 arg7 harg7 arg8 harg8 arg9 harg9 hc0 hc1 x0 x1 x2 x3 x4
    = k1_pay1 (F := F) := by
  unfold out1_B_6
  rw [View.read_writes_eq_canon _ _ _ (cover1_B_6 c i arg3 harg3 arg4 harg4 arg5 harg5 arg6 harg6 arg7 harg7 arg8 harg8 arg9 harg9 hc0 hc1 x0 x1 x2 x3 x4)]
  unfold kernelRun1_B
  dsimp only
  sl_unfold_words
  rw [View.canon_unit_zero (S := S1x256x1024) hz3]

end Second

/-! ### The first body -/

section First

variable (c : Dev nD) (i : grid0.Coords) (arg1 : Memref sig .tc .vmem S1x1x1024 .f32) (harg1 : arg1.IsWhole)
  (arg2 : Memref sig .tc .vmem S1x1x128 .f32) (harg2 : arg2.IsWhole) (arg3 : Memref sig .tc .vmem S1x1x1024 .i32) (harg3 : arg3.IsWhole)
  (arg4 : Memref sig .tc .vmem S1x1x128 .f32) (harg4 : arg4.IsWhole) (x0 : Vec F S1x1x1024 .f32) (x1 : Vec F S1x1x128 .f32)

/-- The rank row a body run leaves. -/
theorem out0_A_2_eq : out0_A_2 c i arg1 harg1 arg2 harg2 arg3 harg3 arg4 harg4 x0 x1 = k0_pay4 x0 := by
  unfold out0_A_2
  rw [View.read_writes_eq_canon _ _ _ (cover0_A_2 c i arg1 harg1 arg2 harg2 arg3 harg3 arg4 harg4 x0 x1)]
  unfold kernelRun0_A
  dsimp only
  sl_unfold_words
  rw [View.canon_unit_zero (S := S1x1x1024) hz3]
  simp only [View.readAt_eq_ld, harg1.read_unread, View.ld_unit_zero (S := S1x1x1024) hz3]

/-- The pieces a body run writes into its row of statistics. -/
theorem out0_A_3_canon : out0_A_3 c i arg1 harg1 arg2 harg2 arg3 harg3 arg4 harg4 x0 x1
    = View.canon (Val := Elt F) (s := S1x1x128) (e := .f32)
      [⟨Rect.unit (s := S1x1x128) ![0, 0, 8] S1x1x1.size inb_S1x1x128_S1x1x1_0_0_8, k0_pay3 (k0_pay5 (lane x1 2))⟩,
       ⟨Rect.unit (s := S1x1x128) ![0, 0, 0] S1x1x2.size inb_S1x1x128_S1x1x2_0_0_0,
          k0_pay2 (bipPair (BitVec.ofNat 32 (i 0).val) (lanes2 x1) (lane x1 2))⟩,
       ⟨Rect.unit (s := S1x1x128) ![0, 0, 0] S1x1x128.size inb_S1x1x128_S1x1x128_0_0_0, k0_pay1 (k0_pay55 (F := F))⟩] := by
  unfold out0_A_3
  rw [View.read_writes_eq_canon _ _ _ (cover0_A_3 c i arg1 harg1 arg2 harg2 arg3 harg3 arg4 harg4 x0 x1)]
  unfold kernelRun0_A
  dsimp only
  sl_unfold_words
  simp only [View.readAt_eq_ld, harg2.read_unread]
  rw [← ld_lane x1 2, ← ld_lanes2 x1]
  rfl

end First

end Cert.KernelIdeal.Blocks

end
-- ==== Proof.Arrays.lean ====
/- The two regions' result arrays, element by element, over the contents the regions find. -/
module

public import proofs.«01_k».proof.Proof.Bodies
public import Idealize.ShloMosaic.Lib.Pipeline.ValueKit.Geometry

@[expose] public section

set_option maxRecDepth 16384

noncomputable section

namespace Cert.KernelIdeal.Blocks

open Idealize.ShloMosaic hiding ix0 ix1 ix2 ix3 eq_ix1 eq_ix2 eq_ix3
open Idealize.ShloMosaic.TcCoe Idealize.SL.Sem
open Idealize.ShloMosaic.ValueIdx Cert.KernelIdeal Cert.KernelIdeal.Gen Cert.Words Cert.Scalars Cert.Ranks

/-! ### Where the windows' blocks lie -/

theorem index0_0 : ∀ t : Fin cfg0.N, win0_0.index t = ![t.val, 0, 0] := (by decide +kernel : ∀ t : Fin grid0.N, _)
theorem index0_1 : ∀ t : Fin cfg0.N, win0_1.index t = ![t.val, 0, 0] := (by decide +kernel : ∀ t : Fin grid0.N, _)
theorem index0_2 : ∀ t : Fin cfg0.N, win0_2.index t = ![t.val, 0, 0] := (by decide +kernel : ∀ t : Fin grid0.N, _)
theorem index0_3 : ∀ t : Fin cfg0.N, win0_3.index t = ![t.val, 0, 0] := (by decide +kernel : ∀ t : Fin grid0.N, _)
theorem coord0 : ∀ t : Fin cfg0.N, (grid0.coords t 0).val = t.val := (by decide +kernel : ∀ t : Fin grid0.N, _)

theorem index1_0 : ∀ t : Fin cfg1.N, win1_0.index t = ![t.val / 4, 0, t.val % 4] := (by decide +kernel : ∀ t : Fin grid1.N, _)
theorem index1_1 : ∀ t : Fin cfg1.N, win1_1.index t = ![t.val / 4, 0, t.val % 4] := (by decide +kernel : ∀ t : Fin grid1.N, _)
theorem index1_2 : ∀ t : Fin cfg1.N, win1_2.index t = ![t.val / 4, 0, 0] := (by decide +kernel : ∀ t : Fin grid1.N, _)
theorem index1_3 : ∀ t : Fin cfg1.N, win1_3.index t = ![t.val / 4, 0, 0] := (by decide +kernel : ∀ t : Fin grid1.N, _)
theorem index1_4 : ∀ t : Fin cfg1.N, win1_4.index t = ![t.val / 4, 0, 0] := (by decide +kernel : ∀ t : Fin grid1.N, _)
theorem index1_5 : ∀ t : Fin cfg1.N, win1_5.index t = ![t.val / 4, t.val % 4, 0] := (by decide +kernel : ∀ t : Fin grid1.N, _)
theorem index1_6 : ∀ t : Fin cfg1.N, win1_6.index t = ![t.val / 4, t.val % 4, 0] := (by decide +kernel : ∀ t : Fin grid1.N, _)
theorem coord1 : ∀ t : Fin cfg1.N, (grid1.coords t 0).val = t.val / 4 := (by decide +kernel : ∀ t : Fin grid1.N, _)

/-- An index of a three-axis array from its coordinates' values. -/
theorem idx3_ext {a b c : ℕ} (i : (⟨3, ![a, b, c]⟩ : Shape).Idx) (x : Fin a) (y : Fin b) (z : Fin c) (h0 : (i 0).val = x.val)
    (h1 : (i 1).val = y.val) (h2 : (i 2).val = z.val) : i = ix3 x y z := by
  funext k
  apply Fin.ext
  match k with
  | ⟨0, _⟩ => exact h0
  | ⟨1, _⟩ => exact h1
  | ⟨2, _⟩ => exact h2

/-! ### The second region -/

section Second

variable {F : FTy → Type} [FloatOps F]
variable (V : (c : Dev nD) → (b : Ref sig .tc) → Buf (Elt F) ((c : Thread nD τ).loc b)) (c : Dev nD)

theorem iblk1_0_apply (t : Fin cfg1.N) (r : Fin 256) (b : Fin 16) (p : Fin 1024) (hb : b.val = t.val / 4)
    (hp : p.val = t.val % 4 * 256 + r.val) :
    iblk1 V c 0 t (ix3 (0 : Fin 1) (0 : Fin 1) r) = V c main_v9 (ix3 b (0 : Fin 1) p) := by
  unfold iblk1
  show V c main_v9 _ = _
  refine congrArg (V c main_v9) (idx3_ext _ _ _ _ ?_ ?_ ?_)
  · blk_simp [index1_0]; omega
  · blk_simp [index1_0]; rfl
  · rw [hp]; blk_simp [index1_0]

theorem iblk1_1_apply (t : Fin cfg1.N) (r : Fin 256) (b : Fin 16) (p : Fin 1024) (hb : b.val = t.val / 4)
    (hp : p.val = t.val % 4 * 256 + r.val) :
    iblk1 V c 1 t (ix3 (0 : Fin 1) (0 : Fin 1) r) = V c main_v20_0 (ix3 b (0 : Fin 1) p) := by
  unfold iblk1
  show V c main_v20_0 _ = _
  refine congrArg (V c main_v20_0) (idx3_ext _ _ _ _ ?_ ?_ ?_)
  · blk_simp [index1_1]; omega
  · blk_simp [index1_1]; rfl
  · rw [hp]; blk_simp [index1_1]

theorem iblk1_2_apply (t : Fin cfg1.N) (j : Fin 1024) (b : Fin 16) (hb : b.val = t.val / 4) :
    iblk1 V c 2 t (ix3 (0 : Fin 1) (0 : Fin 1) j) = V c main_v9 (ix3 b (0 : Fin 1) j) := by
  unfold iblk1
  show V c main_v9 _ = _
  refine congrArg (V c main_v9) (idx3_ext _ _ _ _ ?_ ?_ ?_)
  · blk_simp [index1_2]; omega
  · blk_simp [index1_2]; omega
  · blk_simp [index1_2]; first | done | rfl

theorem iblk1_3_apply (t : Fin cfg1.N) (j : Fin 1024) (b : Fin 16) (hb : b.val = t.val / 4) :
    iblk1 V c 3 t (ix3 (0 : Fin 1) (0 : Fin 1) j) = V c main_v20_0 (ix3 b (0 : Fin 1) j) := by
  unfold iblk1
  show V c main_v20_0 _ = _
  refine congrArg (V c main_v20_0) (idx3_ext _ _ _ _ ?_ ?_ ?_)
  · blk_simp [index1_3]; omega
  · blk_simp [index1_3]; omega
  · blk_simp [index1_3]; first | done | rfl

theorem iblk1_4_apply (t : Fin cfg1.N) (l : Fin 128) (b : Fin 16) (hb : b.val = t.val / 4) :
    iblk1 V c 4 t (ix3 (0 : Fin 1) (0 : Fin 1) l) = V c main_v20_1 (ix3 b (0 : Fin 1) l) := by
  unfold iblk1
  show V c main_v20_1 _ = _
  refine congrArg (V c main_v20_1) (idx3_ext _ _ _ _ ?_ ?_ ?_)
  · blk_simp [index1_4]; omega
  · blk_simp [index1_4]; omega
  · blk_simp [index1_4]; first | done | rfl

/-- The value the second region leaves at a position of the dense graph. -/
def graphAt (b : Fin 16) (i j : Fin 1024) : F .f32 :=
  edgeK (BitVec.ofNat 32 b.val) (V c main_v20_0 (ix3 b (0 : Fin 1) i)) (V c main_v20_0 (ix3 b (0 : Fin 1) j))
    (FloatOps.mulf (FloatOps.subf (V c main_v9 (ix3 b (0 : Fin 1) i)) (V c main_v9 (ix3 b (0 : Fin 1) j)))
      (FloatOps.subf (V c main_v9 (ix3 b (0 : Fin 1) i)) (V c main_v9 (ix3 b (0 : Fin 1) j))))
    (V c main_v20_1 (ix3 b (0 : Fin 1) (8 : Fin 128)))

/-- A point's block of the dense graph. -/
theorem graph_point (t : Fin cfg1.N) :
    (outsAt1 V c t.val t.isLt).1 = graphBlock (BitVec.ofNat 32 (grid1.coords t 0).val) (iblk1 V c 0 t)
      (iblk1 V c 1 t) (iblk1 V c 2 t) (iblk1 V c 3 t) (lane (iblk1 V c 4 t) 8) := by
  by_cases h : t.val % 4 = 0
  · rw [outsAt1_A V c t h (by omega)]
    dsimp only
    rw [out1_A_5_eq]
  · rw [outsAt1_B V c t h (by omega)]
    dsimp only
    rw [out1_B_5_eq]

/-- The dense graph, element by element. -/
theorem graph_array (b : Fin 16) (i j : Fin 1024) :
    (dat1 V c).arrAt 5 cfg1.N (ix3 b i j) = graphAt V c b i j := by
  refine (dat1 V c).arrAt_forall_of_covers 5 (fun x v => v = graphAt V c (x 0) (x 1) (x 2))
    (by decide +kernel) (fun t _ y => ?_) (ix3 b i j)
  have ht : t.val < 64 := lt_of_lt_of_eq t.isLt N_1
  have hb : t.val / 4 < 16 := by omega
  obtain ⟨y0, y1, y2, rfl⟩ : ∃ (y0 : Fin 1) (y1 : Fin 256) (y2 : Fin 1024), y = ix3 y0 y1 y2 := ⟨y 0, y 1, y 2, eq_ix3 y⟩
  have hi : t.val % 4 * 256 + y1.val < 1024 := by omega
  have hx : ((cfg1.win 5).blk t).view.emb (ix3 y0 y1 y2)
      = ix3 (⟨t.val / 4, hb⟩ : Fin 16) (⟨t.val % 4 * 256 + y1.val, hi⟩ : Fin 1024) y2 := by
    refine idx3_ext _ _ _ _ ?_ ?_ ?_
    · blk_simp [index1_5]
    · blk_simp [index1_5]
    · blk_simp [index1_5]
  blk_simp
  rw [hx, after1_5, graph_point, graphBlock_apply]
  rw [iblk1_0_apply V c t y1 ⟨t.val / 4, hb⟩ ⟨_, hi⟩ rfl rfl, iblk1_1_apply V c t y1 ⟨t.val / 4, hb⟩ ⟨_, hi⟩ rfl rfl,
    iblk1_2_apply V c t y2 ⟨t.val / 4, hb⟩ rfl, iblk1_3_apply V c t y2 ⟨t.val / 4, hb⟩ rfl, coord1]
  have hl : lane (iblk1 V c 4 t) 8 (ix3 (0 : Fin 1) (0 : Fin 1) (0 : Fin 1))
      = V c main_v20_1 (ix3 (⟨t.val / 4, hb⟩ : Fin 16) (0 : Fin 1) (8 : Fin 128)) := iblk1_4_apply V c t 8 _ rfl
  rw [hl]
  rfl

/-- The value the second region leaves at a position of the dense bipartite array. -/
def bipAt (b : Fin 16) (i j : Fin 1024) : F .f32 :=
  if i.val = 0 ∧ j.val = 1 then V c main_v20_1 (ix3 b (0 : Fin 1) (1 : Fin 128))
  else if i.val = 0 ∧ j.val = 0 then V c main_v20_1 (ix3 b (0 : Fin 1) (0 : Fin 128))
  else FloatOps.ofBits .f32 0#32

/-- A first point of a batch element writes the two edges. -/
theorem bip_first (t : Fin cfg1.N) (h : t.val % 4 = 0) :
    (outsAt1 V c t.val t.isLt).2 = k1_pay60 (lane (iblk1 V c 4 t) 0) (lane (iblk1 V c 4 t) 1) := by
  rw [outsAt1_A V c t h (by omega)]
  dsimp only
  rw [out1_A_6_eq]

/-- The others write zeros. -/
theorem bip_rest (t : Fin cfg1.N) (h : ¬t.val % 4 = 0) : (outsAt1 V c t.val t.isLt).2 = k1_pay1 := by
  rw [outsAt1_B V c t h (by omega)]
  dsimp only
  rw [out1_B_6_eq]

/-- The dense bipartite array, element by element. -/
theorem bip_array (b : Fin 16) (i j : Fin 1024) :
    (dat1 V c).arrAt 6 cfg1.N (ix3 b i j) = bipAt V c b i j := by
  refine (dat1 V c).arrAt_forall_of_covers 6 (fun x v => v = bipAt V c (x 0) (x 1) (x 2))
    (by decide +kernel) (fun t _ y => ?_) (ix3 b i j)
  have ht : t.val < 64 := lt_of_lt_of_eq t.isLt N_1
  have hb : t.val / 4 < 16 := by omega
  obtain ⟨y0, y1, y2, rfl⟩ : ∃ (y0 : Fin 1) (y1 : Fin 256) (y2 : Fin 1024), y = ix3 y0 y1 y2 := ⟨y 0, y 1, y 2, eq_ix3 y⟩
  have hi : t.val % 4 * 256 + y1.val < 1024 := by omega
  have hx : ((cfg1.win 6).blk t).view.emb (ix3 y0 y1 y2)
      = ix3 (⟨t.val / 4, hb⟩ : Fin 16) (⟨t.val % 4 * 256 + y1.val, hi⟩ : Fin 1024) y2 := by
    refine idx3_ext _ _ _ _ ?_ ?_ ?_
    · blk_simp [index1_6]
    · blk_simp [index1_6]
    · blk_simp [index1_6]
  have hl0 : lane (iblk1 V c 4 t) 0 (ix3 (0 : Fin 1) (0 : Fin 1) (0 : Fin 1))
      = V c main_v20_1 (ix3 (⟨t.val / 4, hb⟩ : Fin 16) (0 : Fin 1) (0 : Fin 128)) := iblk1_4_apply V c t 0 _ rfl
  have hl1 : lane (iblk1 V c 4 t) 1 (ix3 (0 : Fin 1) (0 : Fin 1) (0 : Fin 1))
      = V c main_v20_1 (ix3 (⟨t.val / 4, hb⟩ : Fin 16) (0 : Fin 1) (1 : Fin 128)) := iblk1_4_apply V c t 1 _ rfl
  blk_simp
  rw [hx, after1_6]
  show _ = bipAt V c (⟨t.val / 4, hb⟩ : Fin 16) (⟨t.val % 4 * 256 + y1.val, hi⟩ : Fin 1024) y2
  unfold bipAt
  by_cases h : t.val % 4 = 0
  · have e : (t.val % 4 * 256 + y1.val = 0) = (y1.val = 0) := by
      rw [h]
      simp only [Nat.zero_mul, Nat.zero_add]
    simp only [e]
    rw [bip_first V c t h, bipBlock_apply, hl0, hl1]
  · have e : ¬(t.val % 4 * 256 + y1.val = 0) := by omega
    simp only [e, false_and, if_false]
    rw [bip_rest V c t h, zeroBlock_apply]

end Second

/-! ### The first region -/

section First

variable (V : (c : Dev nD) → (b : Ref sig .tc) → Buf (Elt Ideal) ((c : Thread nD τ).loc b)) (c : Dev nD)

theorem iblk0_0_apply (t : Fin cfg0.N) (j : Fin 1024) (b : Fin 16) (hb : b.val = t.val) :
    iblk0 V c 0 t (ix3 (0 : Fin 1) (0 : Fin 1) j) = V c main_v9 (ix3 b (0 : Fin 1) j) := by
  unfold iblk0
  show V c main_v9 _ = _
  refine congrArg (V c main_v9) (idx3_ext _ _ _ _ ?_ ?_ ?_)
  · blk_simp [index0_0]; omega
  · blk_simp [index0_0]; omega
  · blk_simp [index0_0]; first | done | rfl

theorem iblk0_1_apply (t : Fin cfg0.N) (l : Fin 128) (b : Fin 16) (hb : b.val = t.val) :
    iblk0 V c 1 t (ix3 (0 : Fin 1) (0 : Fin 1) l) = V c main_v19 (ix3 b (0 : Fin 1) l) := by
  unfold iblk0
  show V c main_v19 _ = _
  refine congrArg (V c main_v19) (idx3_ext _ _ _ _ ?_ ?_ ?_)
  · blk_simp [index0_1]; omega
  · blk_simp [index0_1]; omega
  · blk_simp [index0_1]; first | done | rfl

/-- The sort key of an element, as an extended real. -/
def lcAt (b : Fin 16) (k : Fin 1024) : EReal := V c main_v9 (ix3 b (0 : Fin 1) k)

/-- The ranks, element by element. -/
theorem rank_array (b : Fin 16) (j : Fin 1024) :
    (dat0 V c).arrAt 2 cfg0.N (ix3 b (0 : Fin 1) j)
      = BitVec.ofNat 32 (rank (fun k : Fin 1024 => lcAt V c b k) j) := by
  refine (dat0 V c).arrAt_forall_of_covers 2 (fun x v => v = BitVec.ofNat 32
      (rank (fun k : Fin 1024 => lcAt V c (x 0) k) (x 2)))
    (by decide +kernel) (fun t _ y => ?_) (ix3 b (0 : Fin 1) j)
  have ht : t.val < 16 := lt_of_lt_of_eq t.isLt N_0
  obtain ⟨y0, y1, y2, rfl⟩ : ∃ (y0 : Fin 1) (y1 : Fin 1) (y2 : Fin 1024), y = ix3 y0 y1 y2 := ⟨y 0, y 1, y 2, eq_ix3 y⟩
  have hx : ((cfg0.win 2).blk t).view.emb (ix3 y0 y1 y2) = ix3 (⟨t.val, ht⟩ : Fin 16) (0 : Fin 1) y2 := by
    refine idx3_ext _ _ _ _ ?_ ?_ ?_
    · blk_simp [index0_2]
    · blk_simp [index0_2]; rfl
    · blk_simp [index0_2]
  blk_simp
  rw [hx, after0_2]
  unfold outsAt0
  dsimp only
  rw [out0_A_2_eq, rankBlock_apply]
  refine congrArg (BitVec.ofNat 32) (congrArg (fun f => rank f y2) (funext fun k => ?_))
  exact iblk0_0_apply V c t k ⟨t.val, ht⟩ rfl

/-- What the lanes of the second array hold that the second region reads. -/
def MiscAt (x : S16x1x128.Idx) (v : EReal) : Prop :=
  (∀ l : Fin 2, (x 2).val = l.val → v = bipK (F := Ideal) (BitVec.ofNat 32 (x 0).val) (BitVec.ofNat 32 l.val)
      (V c main_v19 (ix3 (x 0) (0 : Fin 1) (l.castLE (by decide) : Fin 128))) (V c main_v19 (ix3 (x 0) (0 : Fin 1) (2 : Fin 128))))
    ∧ ((x 2).val = 8 → v = V c main_v19 (ix3 (x 0) (0 : Fin 1) (2 : Fin 128)))

theorem misc_array (x : S16x1x128.Idx) : MiscAt V c x ((dat0 V c).arrAt 3 cfg0.N x) := by
  refine (dat0 V c).arrAt_forall_of_covers 3 (fun x v => MiscAt V c x v)
    (by decide +kernel) (fun t _ y => ?_) x
  have ht : t.val < 16 := lt_of_lt_of_eq t.isLt N_0
  obtain ⟨y0, y1, y2, rfl⟩ : ∃ (y0 : Fin 1) (y1 : Fin 1) (y2 : Fin 128), y = ix3 y0 y1 y2 := ⟨y 0, y 1, y 2, eq_ix3 y⟩
  obtain rfl : y0 = 0 := Subsingleton.elim _ _
  obtain rfl : y1 = 0 := Subsingleton.elim _ _
  have hx : ((cfg0.win 3).blk t).view.emb (ix3 (0 : Fin 1) (0 : Fin 1) y2) = ix3 (⟨t.val, ht⟩ : Fin 16) (0 : Fin 1) y2 := by
    refine idx3_ext _ _ _ _ ?_ ?_ ?_
    · blk_simp [index0_3]
    · blk_simp [index0_3]; rfl
    · blk_simp [index0_3]
  have hl2 : lane (iblk0 V c 1 t) 2 (ix3 (0 : Fin 1) (0 : Fin 1) (0 : Fin 1))
      = V c main_v19 (ix3 (⟨t.val, ht⟩ : Fin 16) (0 : Fin 1) (2 : Fin 128)) := iblk0_1_apply V c t 2 _ rfl
  blk_simp
  rw [hx, after0_3]
  unfold outsAt0
  dsimp only
  rw [out0_A_3_canon]
  constructor
  · intro l hl
    obtain rfl : y2 = l.castLE (by decide) := Fin.ext hl
    have hr : (ix3 (0 : Fin 1) (0 : Fin 1) (l.castLE (by decide) : Fin 128) : S1x1x128.Idx)
        = (Rect.unit (s := S1x1x128) ![0, 0, 0] S1x1x2.size inb_S1x1x128_S1x1x2_0_0_0).emb
          (ix3 (0 : Fin 1) (0 : Fin 1) l) := by
      refine (idx3_ext _ _ _ _ ?_ ?_ ?_).symm
      · rfl
      · rfl
      · show 0 + 1 * l.val = l.val
        omega
    rw [View.canon_cons_of_not_mem]
    · rw [hr, View.canon_cons_emb]
      unfold k0_pay2
      dsimp only
      rw [shapeCast_ab_1ab_apply, bipPair_apply, hl2, coord0]
      refine congrArg (fun z => bipK (F := Ideal) _ _ z _) ?_
      exact iblk0_1_apply V c t (l.castLE (by decide)) ⟨t.val, ht⟩ rfl
    · rw [Rect.mem_set_unit]
      intro h
      have h2 := (h 2).1
      have : (8 : ℕ) ≤ l.val := h2
      omega
  · intro h8
    obtain rfl : y2 = 8 := Fin.ext h8
    have hr : (ix3 (0 : Fin 1) (0 : Fin 1) (8 : Fin 128) : S1x1x128.Idx)
        = (Rect.unit (s := S1x1x128) ![0, 0, 8] S1x1x1.size inb_S1x1x128_S1x1x1_0_0_8).emb
          (ix3 (0 : Fin 1) (0 : Fin 1) (0 : Fin 1)) := by
      refine (idx3_ext _ _ _ _ ?_ ?_ ?_).symm <;> rfl
    rw [hr, View.canon_cons_emb]
    unfold k0_pay3 k0_pay5
    dsimp only
    rw [shapeCast_ab_1ab_apply, shapeCast_1ab_ab_apply, hl2]

end First

end Cert.KernelIdeal.Blocks

end
-- ==== Proof.RefDraw.lean ====
/- The reference's draws and edges, read at an index as the scalar forms. -/
module

public import proofs.«01_k».proof.Proof.Gen.ReferenceIdeal.Read
public import proofs.«01_k».proof.Proof.Scalars

@[expose] public section

set_option maxRecDepth 16384

noncomputable section

namespace Cert.ReferenceIdeal.Stages

open Idealize.ShloMosaic Cert.ReferenceIdeal Cert.ReferenceIdeal.Read Cert.Words Cert.Scalars

variable {F : FTy → Type} [FloatOps F]

section Words

attribute [local irreducible] IntOp.addi IntOp.xori IntOp.ori IntOp.shli IntOp.shrui

/-- The first seed's two words at a counter. -/
theorem graph_words (i : S16x523776.Idx) :
    (val_main_v201 (F := F) i, val_main_v205 (F := F) i)
      = twenty mixH 1#32 466688987#32 (val_main_v33 (F := F) i, val_main_v35 (F := F) i) := rfl

/-- The second seed's two words at a counter. -/
theorem bip_words (i : S16x2.Idx) :
    (val_main_v462 (F := F) i, val_main_v466 (F := F) i)
      = twenty mixH 2#32 466688984#32 (val_main_v294 (F := F) i, val_main_v296 (F := F) i) := rfl

theorem graph_draw_of (i : S16x523776.Idx) :
    val_main_v219 (F := F) i = draw .host (val_main_v201 (F := F) i, val_main_v205 (F := F) i) := rfl

theorem bip_draw_of (i : S16x2.Idx) :
    val_main_v480 (F := F) i = draw .host (val_main_v462 (F := F) i, val_main_v466 (F := F) i) := rfl

/-- The draw of a numbered pair. -/
theorem graph_draw (i : S16x523776.Idx) :
    val_main_v219 (F := F) i
      = draw .host (twenty mixH 1#32 466688987#32 (val_main_v33 (F := F) i, val_main_v35 (F := F) i)) := by
  rw [graph_draw_of, graph_words]

/-- The draw of an edge of the bipartite graph. -/
theorem bip_draw (i : S16x2.Idx) :
    val_main_v480 (F := F) i
      = draw .host (twenty mixH 2#32 466688984#32 (val_main_v294 (F := F) i, val_main_v296 (F := F) i)) := by
  rw [bip_draw_of, bip_words]

end Words

/-- The sample of a sorted pair, from its draw and its squared distance. -/
theorem graph_sample (x0 : (⟨S16x1024x128, .f32⟩ : BufTy).Contents (Elt F)) (x2 : (⟨S1, .f32⟩ : BufTy).Contents (Elt F))
    (i : S16x1024x1024.Idx) :
    val_main_v266 (F := F) x0 x2 i = sampleR (val_main_v226 (F := F) i)
      (logitR (logpR (val_main_v232 (F := F) x0 i) (val_main_v236 (F := F) x2 i))) := rfl

/-- The sample of an edge of the bipartite graph, from its draw and its squared distance. -/
theorem bip_sample (x0 x1 : (⟨S16x1024x128, .f32⟩ : BufTy).Contents (Elt F)) (x2 : (⟨S1, .f32⟩ : BufTy).Contents (Elt F))
    (i : S16x2.Idx) :
    val_main_v509 (F := F) x0 x1 x2 i = sampleR (val_main_v480 (F := F) i)
      (logitR (logpR (val_main_v281 (F := F) x0 x1 i) (val_main_v285 (F := F) x2 i))) := rfl

end Cert.ReferenceIdeal.Stages

end
-- ==== Proof.RefGraph.lean ====
/- The reference's first result at an index: the edge between the two elements' positions in the sorted order. -/
module

public import proofs.«01_k».proof.Proof.Sorts
public import proofs.«01_k».proof.Proof.RefDraw

@[expose] public section

set_option maxRecDepth 16384

noncomputable section

namespace Cert.ReferenceIdeal.Stages

open Idealize.ShloMosaic hiding ix0 ix1 ix2 ix3 eq_ix1 eq_ix2 eq_ix3
open Idealize.ShloMosaic.ValueIdx Cert.ReferenceIdeal Cert.ReferenceIdeal.Read Cert.Ranks Cert.Numbering Cert.Scalars Cert.Words
open Idealize.ShloMosaic.Routing

/-- Two rank-two indices with the same coordinates. -/
theorem same2 {n m : ℕ} (i : Shape.Idx ⟨2, ![n, m]⟩) (p : Fin n) (q : Fin m) (h0 : i 0 = p) (h1 : i 1 = q) : i = ix2 p q := by
  subst h0 h1
  exact ValueIdx.eq_ix2 i

/-- The row lengths: row `p` has `1023 - p` pairs. -/
theorem length_apply (p : Fin 1024) : val_main_v15 (F := Ideal) (ix1 p) = BitVec.ofNat 32 (1023 - p.val) := by
  rw [val_main_v15_apply, val_main_v14_apply, val_main_v13_apply]
  exact subi_ofNat 1023 p.val (by omega)

/-- The first pair of row `p` has number `rowStart p`. -/
theorem start_apply (p : Fin 1024) : val_main_v17 (F := Ideal) (ix1 p) = BitVec.ofNat 32 (rowStart p.val) := by
  have h : val_main_v16 (F := Ideal) (ix1 p) = BitVec.ofNat 32 (rowStart (p.val + 1)) := by
    unfold val_main_v16
    exact cumsum1 (N := 1024) (Nm1 := 1023) (by norm_num) _ (fun i => 1023 - i) length_apply _ rfl _ _ p
  rw [val_main_v17_apply, h, length_apply, rowStart_succ, subi_ofNat _ _ (Nat.le_add_left _ _), Nat.add_sub_cancel]

/-- The number of the pair of sorted positions `p < q`. -/
theorem number_apply (p q : Fin 1024) (hpq : p < q) :
    val_main_v25 (F := Ideal) (ix2 p q) = BitVec.ofNat 32 (number p.val q.val) := by
  have hp : p.val < q.val := hpq
  have h19 : idx_main_v19 (idx_main_v23 (ix2 p q)) = ix1 p := by
    funext a
    match a with
    | ⟨0, _⟩ => rfl
  have h18 : val_main_v18 (F := Ideal) (ix2 p q) = 1#1 := by
    rw [val_main_v18_apply, val_main_v11_apply, val_main_v12_apply]
    refine (slt_small p.val q.val (by omega) (by omega)).trans ?_
    rw [decide_eq_true hp]
    rfl
  have h20 : val_main_v20 (F := Ideal) (ix2 p q) = BitVec.ofNat 32 (q.val - p.val) := by
    rw [val_main_v20_apply, val_main_v11_apply, val_main_v12_apply]
    exact subi_ofNat q.val p.val hp.le
  have h22 : val_main_v22 (F := Ideal) (ix2 p q) = BitVec.ofNat 32 (q.val - p.val - 1) := by
    rw [val_main_v22_apply, h20, val_main_v21_apply]
    exact subi_ofNat _ 1 (by omega)
  rw [val_main_v25_apply, h18, select_one, val_main_v24_apply, val_main_v23_apply, val_main_v19_apply, h19, start_apply,
    h22, addi_ofNat]
  rfl

/-- The number is not negative, so it is used as it is. -/
theorem pairIndex_apply (p q : Fin 1024) (hpq : p < q) :
    val_main_v225 (F := Ideal) (ix3 p q (0 : Fin 1)) = BitVec.ofNat 32 (number p.val q.val) := by
  have h225 : idx_main_v225 (ix3 p q (0 : Fin 1)) = ix2 p q := by
    funext a
    match a with
    | ⟨0, _⟩ => rfl
    | ⟨1, _⟩ => rfl
  have hn := number_lt p.val q.val hpq q.isLt
  rw [val_main_v225_apply, h225, val_main_v224_apply, val_main_v221_apply, val_main_v220_apply, number_apply p q hpq]
  exact nowrap _ (by omega) _

/-- The counter word of draw `k` of row `b` of the batch. -/
theorem counter_apply (b : Fin 16) (k : Fin 523776) :
    val_main_v35 (F := Ideal) (ix2 b k) = BitVec.ofNat 32 (b.val * 523776 + k.val + 1) := by
  have h28 : val_main_v28 (F := Ideal) (ix2 b k) = BitVec.ofNat 32 (b.val * 523776) := by
    rw [val_main_v28_apply, val_main_v26_apply, val_main_v27_apply]
    exact muli_ofNat b.val 523776
  have h30 : val_main_v30 (F := Ideal) (ix2 b k) = BitVec.ofNat 32 (b.val * 523776 + k.val) := by
    rw [val_main_v30_apply, h28, val_main_v29_apply]
    exact addi_ofNat _ _
  rw [val_main_v35_apply, h30, val_main_v34_apply]
  exact addi_ofNat _ 1

/-- The high counter word is zero. -/
theorem high_apply (i : S16x523776.Idx) : val_main_v33 (F := Ideal) i = 0#32 := by
  rw [val_main_v33_apply, val_main_v31_apply, val_main_v32_apply]
  rfl

/-- The draw of the pair of sorted positions `p < q`. -/
theorem pairDraw_apply (b : Fin 16) (p q : Fin 1024) (hpq : p < q) :
    val_main_v226 (F := Ideal) (ix3 b p q) = draw (F := Ideal) .host (twenty mixH 1#32 466688987#32
      (0#32, BitVec.ofNat 32 (b.val * 523776 + number p.val q.val + 1))) := by
  have hn := number_lt p.val q.val hpq q.isLt
  have h : val_main_v226 (F := Ideal) (ix3 b p q) = val_main_v219 (F := Ideal) (ix2 b ⟨number p.val q.val, hn⟩) := by
    unfold val_main_v226
    exact pickDraw _ _ b p q ⟨number p.val q.val, hn⟩ (pairIndex_apply p q hpq)
  rw [h, graph_draw, high_apply, counter_apply]

/-- The squared distance of two sorted log cdfs. -/
theorem pairDist_apply (x0 : S16x1024x128.Idx → EReal) (b : Fin 16) (p q : Fin 1024) :
    val_main_v232 (F := Ideal) x0 (ix3 b p q)
      = (key x0 b (sortedFrom (keyLt (key x0 b)) p) - key x0 b (sortedFrom (keyLt (key x0 b)) q))
        * (key x0 b (sortedFrom (keyLt (key x0 b)) p) - key x0 b (sortedFrom (keyLt (key x0 b)) q)) := by
  have h1 : idx_main_v227 (idx_main_v229 (ix3 b p q)) = ix2 b p := by
    funext a
    match a with
    | ⟨0, _⟩ => rfl
    | ⟨1, _⟩ => rfl
  have h2 : idx_main_v228 (idx_main_v230 (ix3 b p q)) = ix2 b q := by
    funext a
    match a with
    | ⟨0, _⟩ => rfl
    | ⟨1, _⟩ => rfl
  rw [val_main_v232_apply, val_main_v231_apply, val_main_v229_apply, val_main_v230_apply, val_main_v227_apply,
    val_main_v228_apply, h1, h2, sortedKey_apply, sortedKey_apply]
  rfl

/-- The scale, the same at every index. -/
theorem graphScale_apply (x2 : S1.Idx → EReal) (i : S16x1024x1024.Idx) :
    val_main_v236 (F := Ideal) x2 i = x2 (ix1 (0 : Fin 1)) := by
  rw [val_main_v236_apply, val_main_v235_apply]
  refine congrArg x2 ?_
  funext a
  match a with
  | ⟨0, _⟩ => rfl

/-- The sorted graph: the sample above the diagonal, zero elsewhere. -/
theorem sortedGraph_apply (x0 : S16x1024x128.Idx → EReal) (x2 : S1.Idx → EReal) (b : Fin 16) (p q : Fin 1024) :
    val_main_v268 (F := Ideal) x0 x2 (ix3 b p q)
      = edgeR b.val p.val q.val
        ((key x0 b (sortedFrom (keyLt (key x0 b)) p) - key x0 b (sortedFrom (keyLt (key x0 b)) q))
        * (key x0 b (sortedFrom (keyLt (key x0 b)) p) - key x0 b (sortedFrom (keyLt (key x0 b)) q))) (x2 (ix1 (0 : Fin 1))) := by
  have h4 : idx_main_call4_v1 (ix3 b p q) = ix2 p q := by
    funext a
    match a with
    | ⟨0, _⟩ => rfl
    | ⟨1, _⟩ => rfl
  have hm : val_main_call4_v1 (F := Ideal) (ix3 b p q) = BitVec.ofBool (decide (p.val < q.val)) := by
    rw [val_main_call4_v1_apply, h4, val_main_v267_apply, val_main_v11_apply, val_main_v12_apply]
    exact slt_small p.val q.val (by omega) (by omega)
  have hz : val_main_call4_v2 (F := Ideal) (ix3 b p q) = FloatOps.ofBits (F := Ideal) .f32 0x00000000#32 := by
    rw [val_main_call4_v2_apply]
    rfl
  unfold edgeR
  rw [val_main_v268_apply, hm, hz]
  by_cases hpq : p.val < q.val
  · rw [decide_eq_true hpq]
    refine (select_one _ _).trans (Eq.trans ?_ (select_one _ _).symm)
    rw [graph_sample, pairDraw_apply b p q hpq, pairDist_apply, graphScale_apply]
  · rw [decide_eq_false hpq]
    exact (select_zero _ _).trans (select_zero _ _).symm

/-- The position of element `y`, along every row of the block. -/
theorem spread_apply (x0 : S16x1024x128.Idx → EReal) (b : Fin 16) (x y : Fin 1024) :
    val_main_v271 (F := Ideal) x0 (ix3 b x y) = BitVec.ofNat 32 (rank (key x0 b) y) := by
  have h : idx_main_v270 (idx_main_v271 (ix3 b x y)) = ix2 b y := by
    funext a
    match a with
    | ⟨0, _⟩ => rfl
    | ⟨1, _⟩ => rfl
  rw [val_main_v271_apply, val_main_v270_apply, h, position_apply]

/-- The gather index of the first re-ordering. -/
theorem wrapped6 (x0 : S16x1024x128.Idx → EReal) (b : Fin 16) (x y : Fin 1024) :
    val_main_call6_v4 (F := Ideal) x0 (ix3 b x y) = BitVec.ofNat 32 (rank (key x0 b) y) := by
  have := rank_lt (key x0 b) y
  rw [val_main_call6_v4_apply, val_main_call6_v1_apply, val_main_call6_v0_apply, spread_apply]
  exact nowrap _ (by omega) _

/-- The gather index of the second re-ordering. -/
theorem wrapped7 (x0 : S16x1024x128.Idx → EReal) (b : Fin 16) (x y : Fin 1024) :
    val_main_call7_v4 (F := Ideal) x0 (ix3 b x y) = BitVec.ofNat 32 (rank (key x0 b) y) := by
  have := rank_lt (key x0 b) y
  rw [val_main_call7_v4_apply, val_main_call7_v1_apply, val_main_call7_v0_apply, spread_apply]
  exact nowrap _ (by omega) _

/-- The columns put back in the elements' order. -/
theorem columns_apply (x0 : S16x1024x128.Idx → EReal) (x2 : S1.Idx → EReal) (b : Fin 16) (x y : Fin 1024) :
    val_main_v272 (F := Ideal) x0 x2 (ix3 b x y)
      = val_main_v268 (F := Ideal) x0 x2 (ix3 b x ⟨rank (key x0 b) y, rank_lt (key x0 b) y⟩) := by
  unfold val_main_v272
  refine pick3 _ _ b x y ⟨rank (key x0 b) y, rank_lt (key x0 b) y⟩ ?_
  rw [val_main_call6_v5_apply]
  refine Eq.trans (congrArg (val_main_call6_v4 (F := Ideal) x0) ?_) (wrapped6 x0 b x y)
  funext a
  refine Fin.ext ?_
  have h0 : b.val < 16 := b.isLt
  have h1 : x.val < 1024 := x.isLt
  have h2 : y.val < 1024 := y.isLt
  match a with
  | ⟨0, _⟩ => show (((b.val * 1024 + x.val) * 1024 + y.val) * 1 + 0) / 1048576 = b.val; omega
  | ⟨1, _⟩ => show (((b.val * 1024 + x.val) * 1024 + y.val) * 1 + 0) / 1024 % 1024 = x.val; omega
  | ⟨2, _⟩ => show (((b.val * 1024 + x.val) * 1024 + y.val) * 1 + 0) % 1024 = y.val; omega

/-- The rows put back in the elements' order. -/
theorem rows_apply (x0 : S16x1024x128.Idx → EReal) (x2 : S1.Idx → EReal) (b : Fin 16) (x y : Fin 1024) :
    val_main_v274 (F := Ideal) x0 x2 (ix3 b x y)
      = val_main_v273 (F := Ideal) x0 x2 (ix3 b x ⟨rank (key x0 b) y, rank_lt (key x0 b) y⟩) := by
  unfold val_main_v274
  refine pick3 _ _ b x y ⟨rank (key x0 b) y, rank_lt (key x0 b) y⟩ ?_
  rw [val_main_call7_v5_apply]
  refine Eq.trans (congrArg (val_main_call7_v4 (F := Ideal) x0) ?_) (wrapped7 x0 b x y)
  funext a
  refine Fin.ext ?_
  have h0 : b.val < 16 := b.isLt
  have h1 : x.val < 1024 := x.isLt
  have h2 : y.val < 1024 := y.isLt
  match a with
  | ⟨0, _⟩ => show (((b.val * 1024 + x.val) * 1024 + y.val) * 1 + 0) / 1048576 = b.val; omega
  | ⟨1, _⟩ => show (((b.val * 1024 + x.val) * 1024 + y.val) * 1 + 0) / 1024 % 1024 = x.val; omega
  | ⟨2, _⟩ => show (((b.val * 1024 + x.val) * 1024 + y.val) * 1 + 0) % 1024 = y.val; omega

theorem swap3 (f : S16x1024x1024.Idx → S16x1024x1024.Idx) (b : Fin 16) (x y : Fin 1024)
    (h0 : f (ix3 b x y) 0 = b) (h1 : f (ix3 b x y) 1 = y) (h2 : f (ix3 b x y) 2 = x) : f (ix3 b x y) = ix3 b y x := by
  funext a
  match a with
  | ⟨0, _⟩ => exact h0
  | ⟨1, _⟩ => exact h1
  | ⟨2, _⟩ => exact h2

/-- The reference's first result: the edge of the two elements' sorted positions, over their own log cdfs. -/
theorem graph_apply (x0 : S16x1024x128.Idx → EReal) (x2 : S1.Idx → EReal) (b : Fin 16) (i j : Fin 1024) :
    val_main_v275 (F := Ideal) x0 x2 (ix3 b i j)
      = edgeR b.val (rank (key x0 b) i) (rank (key x0 b) j)
        ((key x0 b i - key x0 b j) * (key x0 b i - key x0 b j)) (x2 (ix1 (0 : Fin 1))) := by
  rw [val_main_v275_apply, swap3 idx_main_v275 b i j rfl rfl rfl, rows_apply, val_main_v273_apply,
    swap3 idx_main_v273 b j _ rfl rfl rfl, columns_apply, sortedGraph_apply, sortedFrom_rank, sortedFrom_rank]

end Cert.ReferenceIdeal.Stages

end
-- ==== Proof.RefBip.lean ====
/- The reference's second result at an index: two samples in the corner of each sheet, zero elsewhere. -/
module

public import proofs.«01_k».proof.Proof.RefGraph
public import proofs.«01_k».proof.Proof.StatsBlock
public import Idealize.ShloMosaic.Lib.KernelVsHost

@[expose] public section

set_option maxRecDepth 16384

noncomputable section

namespace Cert.ReferenceIdeal.Stages

open Idealize.ShloMosaic hiding ix0 ix1 ix2 ix3 eq_ix1 eq_ix2 eq_ix3
open Idealize.ShloMosaic.ValueIdx Cert.ReferenceIdeal Cert.ReferenceIdeal.Read Cert.Ranks Cert.Numbering Cert.Scalars Cert.Words
open Cert.KernelIdeal.Blocks (bipK laneWord)

/-- The scale, the same at every index. -/
theorem bipScale_apply (x2 : S1.Idx → EReal) (i : S16x2.Idx) :
    val_main_v285 (F := Ideal) x2 i = x2 (ix1 (0 : Fin 1)) := by
  rw [val_main_v285_apply, val_main_v284_apply]
  refine congrArg x2 ?_
  funext a
  match a with
  | ⟨0, _⟩ => rfl

/-- The two samples of a batch row, in the kernel's form of them. -/
theorem corner_apply (x0 x1 : S16x1024x128.Idx → EReal) (x2 : S1.Idx → EReal) (b : Fin 16) (l : Fin 2) :
    val_main_v509 (F := Ideal) x0 x1 x2 (ix2 b l)
      = bipK (F := Ideal) (BitVec.ofNat 32 b.val) (BitVec.ofNat 32 l.val) (val_main_v281 (F := Ideal) x0 x1 (ix2 b l))
        (x2 (ix1 (0 : Fin 1))) := by
  have h0 : val_main_v294 (F := Ideal) (ix2 b l) = 0#32 := by
    rw [val_main_v294_apply, val_main_v292_apply, val_main_v293_apply]
    rfl
  have h1 : val_main_v296 (F := Ideal) (ix2 b l) = laneWord (BitVec.ofNat 32 b.val) (BitVec.ofNat 32 l.val) := by
    rw [val_main_v296_apply, val_main_v291_apply, val_main_v289_apply, val_main_v287_apply, val_main_v288_apply,
      val_main_v290_apply, val_main_v295_apply]
    rfl
  rw [bip_sample, bip_draw, h0, h1, bipScale_apply]
  unfold bipK
  rw [twenty_mixV, draw_unit, logp_eq, logit_eq, sample_eq]

/-- The reference's second result inside the corner. -/
theorem bip_corner (x0 x1 : S16x1024x128.Idx → EReal) (x2 : S1.Idx → EReal) (b : Fin 16) (i j : Fin 1024) (l : Fin 2)
    (hi : i.val = 0) (hj : j.val = l.val) :
    val_main_v511 (F := Ideal) x0 x1 x2 (ix3 b i j) = val_main_v509 (F := Ideal) x0 x1 x2 (ix2 b l) := by
  have h : val_main_v511 (F := Ideal) x0 x1 x2 (ix3 b i j)
      = val_main_v510 (F := Ideal) x0 x1 x2 (ix3 b (0 : Fin 1) l) := by
    unfold val_main_v511
    refine pad_apply_of_inside _ _ _ _ _ _ _ _ (ix3 b (0 : Fin 1) l) (fun a => ?_)
    match a with
    | ⟨0, _⟩ => show b.val = 0 + b.val * 1; omega
    | ⟨1, _⟩ => show i.val = 0 + 0 * 1; omega
    | ⟨2, _⟩ => show j.val = 0 + l.val * 1; omega
  rw [h, val_main_v510_apply]
  refine congrArg _ ?_
  funext a
  match a with
  | ⟨0, _⟩ => rfl
  | ⟨1, _⟩ => rfl

/-- The padding value is zero. -/
theorem padding_apply (i : S_.Idx) : val_main_call8_v0 (F := Ideal) i = FloatOps.ofBits (F := Ideal) .f32 0#32 := by
  rw [val_main_call8_v0_apply]
  refine Eq.trans ?_ lit_zero.symm
  show ((((0#32 : BitVec 32).toInt : ℝ)) : EReal) = 0
  norm_num

/-- The reference's second result outside the corner. -/
theorem bip_outside (x0 x1 : S16x1024x128.Idx → EReal) (x2 : S1.Idx → EReal) (b : Fin 16) (i j : Fin 1024)
    (h : ¬(i.val = 0 ∧ j.val < 2)) :
    val_main_v511 (F := Ideal) x0 x1 x2 (ix3 b i j) = FloatOps.ofBits (F := Ideal) .f32 0#32 := by
  unfold val_main_v511
  by_cases hi : i.val = 0
  · refine (pad_apply_of_not_inside _ _ _ _ _ _ _ _ ⟨2, by decide⟩ (fun hin => ?_)).trans (padding_apply _)
    have : (j.val - 0) / 1 < 2 := hin.2.2
    exact h ⟨hi, by omega⟩
  · refine (pad_apply_of_not_inside _ _ _ _ _ _ _ _ ⟨1, by decide⟩ (fun hin => ?_)).trans (padding_apply _)
    have : (i.val - 0) / 1 < 1 := hin.2.2
    omega

end Cert.ReferenceIdeal.Stages

end
-- ==== Proof.Values.lean ====
/- The kernel program's two results are the reference's: the blocks' arrays, the host's arrays and the reference's stages
   put together. -/
module

public import proofs.«01_k».proof.Proof.Host
public import proofs.«01_k».proof.Proof.Arrays
public import proofs.«01_k».proof.Proof.RefBip

@[expose] public section

set_option maxRecDepth 16384

noncomputable section

namespace Cert.KernelIdeal.Gen

open Idealize.ShloMosaic hiding ix0 ix1 ix2 ix3 eq_ix1 eq_ix2 eq_ix3
open Idealize.ShloMosaic.ValueIdx Idealize.ShloMosaic.TcCoe Idealize.ShloMosaic.StableHlo
open Cert.ReferenceIdeal.Read Cert.ReferenceIdeal.Stages Cert.KernelIdeal.Blocks Cert.Ranks Cert.Numbering Cert.Scalars

variable (m : (ℓ : Loc nD τ sig) → Buf (Elt Ideal) ℓ) (ρ : Dev nD → PrngReg)

/-- The log cdfs are still there when the second grid runs. -/
theorem logs_kept (c : Dev nD) (b : Fin 16) (k : Fin 1024) :
    V2 m ρ c main_v9 (ix3 b (0 : Fin 1) k) = key (m ((c.tc : Thread nD τ).loc main_arg0)) b k :=
  (congrFun (W2_of m ρ c main_v9 (by decide)) _).trans (logs_apply m ρ c b k)

/-- The second grid reads the sorted positions. -/
theorem ranks_kept (c : Dev nD) (b : Fin 16) (j : Fin 1024) :
    V2 m ρ c main_v20_0 (ix3 b (0 : Fin 1) j)
      = BitVec.ofNat 32 (rank (key (m ((c.tc : Thread nD τ).loc main_arg0)) b) j) := by
  refine (congrFun (W2_arr m ρ c 2) _).trans ((rank_array (V1 m ρ) c b j).trans ?_)
  refine congrArg (BitVec.ofNat 32) (congrArg (fun f => rank f j) (funext fun k => ?_))
  exact logs_apply m ρ c b k

/-- The second grid reads the first grid's lanes. -/
theorem misc_kept (c : Dev nD) (x : S16x1x128.Idx) : MiscAt (V1 m ρ) c x (V2 m ρ c main_v20_1 x) := by
  have h : V2 m ρ c main_v20_1 x = (dat0 (V1 m ρ) c).arrAt 3 cfg0.N x := congrFun (W2_arr m ρ c 3) x
  rw [h]
  exact misc_array (V1 m ρ) c x

/-- The kernel's first result at an index is the reference's. -/
theorem graph_same (c : Dev nD) (b : Fin 16) (i j : Fin 1024) :
    (dat1 (V2 m ρ) c).arrAt 5 cfg1.N (ix3 b i j)
      = val_main_v275 (F := Ideal) (m ((c.tc : Thread nD τ).loc main_arg0)) (m ((c.tc : Thread nD τ).loc main_arg2))
        (ix3 b i j) := by
  rw [graph_array, graph_apply, ← edge_eq _ _ _ (rank_lt _ i) (rank_lt _ j)]
  have h8 : V2 m ρ c main_v20_1 (ix3 b (0 : Fin 1) (8 : Fin 128))
      = (m ((c.tc : Thread nD τ).loc main_arg2) : S1.Idx → EReal) (ix1 (0 : Fin 1)) :=
    ((misc_kept m ρ c (ix3 b (0 : Fin 1) (8 : Fin 128))).2 rfl).trans (scale_apply m ρ c b 2 rfl)
  unfold graphAt
  rw [ranks_kept, ranks_kept, logs_kept, logs_kept, h8]
  rfl

/-- A corner lane that the second grid reads is the reference's sample. -/
theorem lane_same (c : Dev nD) (b : Fin 16) (l : Fin 2) (k : Fin 128) (hk : k.val = l.val) :
    V2 m ρ c main_v20_1 (ix3 b (0 : Fin 1) k)
      = val_main_v509 (F := Ideal) (m ((c.tc : Thread nD τ).loc main_arg0)) (m ((c.tc : Thread nD τ).loc main_arg1))
        (m ((c.tc : Thread nD τ).loc main_arg2)) (ix2 b l) := by
  refine ((misc_kept m ρ c (ix3 b (0 : Fin 1) k)).1 l hk).trans (Eq.trans ?_ (corner_apply _ _ _ b l).symm)
  exact congrArg₂ (bipK (F := Ideal) (BitVec.ofNat 32 b.val) (BitVec.ofNat 32 l.val))
    (dist_apply m ρ c b l _ rfl) (scale_apply m ρ c b 2 rfl)

/-- The kernel's second result at an index is the reference's. -/
theorem bip_same (c : Dev nD) (b : Fin 16) (i j : Fin 1024) :
    (dat1 (V2 m ρ) c).arrAt 6 cfg1.N (ix3 b i j)
      = val_main_v511 (F := Ideal) (m ((c.tc : Thread nD τ).loc main_arg0)) (m ((c.tc : Thread nD τ).loc main_arg1))
        (m ((c.tc : Thread nD τ).loc main_arg2)) (ix3 b i j) := by
  rw [bip_array]
  unfold bipAt
  by_cases h1 : i.val = 0 ∧ j.val = 1
  · rw [if_pos h1, bip_corner _ _ _ b i j 1 h1.1 h1.2]
    exact lane_same m ρ c b 1 1 rfl
  rw [if_neg h1]
  by_cases h0 : i.val = 0 ∧ j.val = 0
  · rw [if_pos h0, bip_corner _ _ _ b i j 0 h0.1 h0.2]
    exact lane_same m ρ c b 0 0 rfl
  rw [if_neg h0, bip_outside _ _ _ b i j (fun h => by
    rcases h with ⟨hi, hj⟩
    have : j.val = 0 ∨ j.val = 1 := by omega
    rcases this with h | h
    · exact h0 ⟨hi, h⟩
    · exact h1 ⟨hi, h⟩)]

/-- The kernel's first result. -/
theorem graph_result (c : Dev nD) : (dat1 (V2 m ρ) c).arrAt 5 cfg1.N
    = val_main_v275 (F := Ideal) (m ((c.tc : Thread nD τ).loc main_arg0)) (m ((c.tc : Thread nD τ).loc main_arg2)) := by
  funext x
  obtain ⟨b, i, j, rfl⟩ : ∃ (b : Fin 16) (i : Fin 1024) (j : Fin 1024), x = ix3 b i j := ⟨x 0, x 1, x 2, eq_ix3 x⟩
  exact graph_same m ρ c b i j

/-- The kernel's second result. -/
theorem bip_result (c : Dev nD) : (dat1 (V2 m ρ) c).arrAt 6 cfg1.N
    = val_main_v511 (F := Ideal) (m ((c.tc : Thread nD τ).loc main_arg0)) (m ((c.tc : Thread nD τ).loc main_arg1))
      (m ((c.tc : Thread nD τ).loc main_arg2)) := by
  funext x
  obtain ⟨b, i, j, rfl⟩ : ∃ (b : Fin 16) (i : Fin 1024) (j : Fin 1024), x = ix3 b i j := ⟨x 0, x 1, x 2, eq_ix3 x⟩
  exact bip_same m ρ c b i j

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Values
public import Idealize.ShloMosaic.Adequacy
public import Idealize.ShloMosaic.Init

@[expose] public section

noncomputable section

namespace Cert.Proof

open Idealize.ShloMosaic Idealize.SL.Sem

/-- The reference runs, leaves its arguments alone and, having no semaphore, ends with every counter at zero. -/
theorem frame_reference : Cert.quiescent_ReferenceIdeal (hReferenceIdeal := Cert.ReferenceIdeal.Gen.facts) := by
  intro m ρ _
  exact (θ_run Cert.ReferenceIdeal.defs _ _).mono (fun r h => ⟨fun c => ⟨(h c).2.2.1, (h c).2.2.2.1, (h c).2.2.2.2⟩,
    sem_eq_zero_of_no_sems (by decide) r.2⟩) (Cert.ReferenceIdeal.Value.run (F := Ideal) m ρ)

/-- Both programs end with the same two arrays, from any memories that agree on the three arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (Cert.KernelIdeal.Gen.dat1 (Cert.KernelIdeal.Gen.V2 m g) c).arrAt 5 Cert.KernelIdeal.cfg1.N,
    fun c => (Cert.KernelIdeal.Gen.dat1 (Cert.KernelIdeal.Gen.V2 m g) c).arrAt 6 Cert.KernelIdeal.cfg1.N,
    Cert.KernelIdeal.Gen.run_results m g, ?_⟩
  refine (θ_run Cert.ReferenceIdeal.defs _ _).mono (fun r h c => ?_) (Cert.ReferenceIdeal.Value.run (F := Ideal) m' g')
  obtain ⟨h0, h1, h2, h3, h4⟩ := h c
  obtain ⟨a0, a1, a2⟩ := hargs c
  refine ⟨?_, ?_, h2, h3, h4⟩
  · refine h0.trans ((Cert.ReferenceIdeal.Read.val_main_v275_eq (StableHlo.launchContents m' c)).trans ?_)
    exact (congrArg₂ (Cert.ReferenceIdeal.Read.val_main_v275 (F := Ideal)) a0 a2).trans
      (Cert.KernelIdeal.Gen.graph_result m g c).symm
  · refine h1.trans ((Cert.ReferenceIdeal.Read.val_main_v511_eq (StableHlo.launchContents m' c)).trans ?_)
    exact (congr (congrArg₂ (Cert.ReferenceIdeal.Read.val_main_v511 (F := Ideal)) a0 a1) a2).trans
      (Cert.KernelIdeal.Gen.bip_result m g c).symm

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    algebraic⟩

end Cert.Proof

end
